-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)) (v3 : (c : Dev Cert.Kernel4Ideal.nD) → Buf (Elt Ideal) ((c.tc : Thread Cert.Kernel4Ideal.nD Cert.Kernel4Ideal.τ).loc Cert.Kernel4Ideal.main_v24_3)) (v4 : (c : Dev Cert.Kernel4Ideal.nD) → Buf (Elt Ideal) ((c.tc : Thread Cert.Kernel4Ideal.nD Cert.Kernel4Ideal.τ).loc Cert.Kernel4Ideal.main_v24_4)) (v5 : (c : Dev Cert.Kernel4Ideal.nD) → Buf (Elt Ideal) ((c.tc : Thread Cert.Kernel4Ideal.nD Cert.Kernel4Ideal.τ).loc Cert.Kernel4Ideal.main_v24_5)) (v6 : (c : Dev Cert.Kernel4Ideal.nD) → Buf (Elt Ideal) ((c.tc : Thread Cert.Kernel4Ideal.nD Cert.Kernel4Ideal.τ).loc Cert.Kernel4Ideal.main_v24_6)) (v7 : (c : Dev Cert.Kernel4Ideal.nD) → Buf (Elt Ideal) ((c.tc : Thread Cert.Kernel4Ideal.nD Cert.Kernel4Ideal.τ).loc Cert.Kernel4Ideal.main_v24_7)) (v8 : (c : Dev Cert.Kernel4Ideal.nD) → Buf (Elt Ideal) ((c.tc : Thread Cert.Kernel4Ideal.nD Cert.Kernel4Ideal.τ).loc Cert.Kernel4Ideal.main_v24_8)) (v9 : (c : Dev Cert.Kernel4Ideal.nD) → Buf (Elt Ideal) ((c.tc : Thread Cert.Kernel4Ideal.nD Cert.Kernel4Ideal.τ).loc Cert.Kernel4Ideal.main_v24_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_v24_3) = v3 c
          ∧ r.2.mem ((c.tc : Thread Cert.Kernel4Ideal.nD Cert.Kernel4Ideal.τ).loc Cert.Kernel4Ideal.main_v24_4) = v4 c
          ∧ r.2.mem ((c.tc : Thread Cert.Kernel4Ideal.nD Cert.Kernel4Ideal.τ).loc Cert.Kernel4Ideal.main_v24_5) = v5 c
          ∧ r.2.mem ((c.tc : Thread Cert.Kernel4Ideal.nD Cert.Kernel4Ideal.τ).loc Cert.Kernel4Ideal.main_v24_6) = v6 c
          ∧ r.2.mem ((c.tc : Thread Cert.Kernel4Ideal.nD Cert.Kernel4Ideal.τ).loc Cert.Kernel4Ideal.main_v24_7) = v7 c
          ∧ r.2.mem ((c.tc : Thread Cert.Kernel4Ideal.nD Cert.Kernel4Ideal.τ).loc Cert.Kernel4Ideal.main_v24_8) = v8 c
          ∧ r.2.mem ((c.tc : Thread Cert.Kernel4Ideal.nD Cert.Kernel4Ideal.τ).loc Cert.Kernel4Ideal.main_v24_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_v39) = v4 c
          ∧ r.2.mem ((c.tc : Thread Cert.Reference4Ideal.nD Cert.Reference4Ideal.τ).loc Cert.Reference4Ideal.main_v36) = v5 c
          ∧ r.2.mem ((c.tc : Thread Cert.Reference4Ideal.nD Cert.Reference4Ideal.τ).loc Cert.Reference4Ideal.main_v37) = v6 c
          ∧ r.2.mem ((c.tc : Thread Cert.Reference4Ideal.nD Cert.Reference4Ideal.τ).loc Cert.Reference4Ideal.main_v38) = v7 c
          ∧ r.2.mem ((c.tc : Thread Cert.Reference4Ideal.nD Cert.Reference4Ideal.τ).loc Cert.Reference4Ideal.main_v45) = v8 c
          ∧ r.2.mem ((c.tc : Thread Cert.Reference4Ideal.nD Cert.Reference4Ideal.τ).loc Cert.Reference4Ideal.main_v51) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_scores_finite.lean ====
abbrev S16 : Shape := ⟨1, ![16]⟩
abbrev S16384x1024 : Shape := ⟨2, ![16384, 1024]⟩
abbrev S16384x256 : Shape := ⟨2, ![16384, 256]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  bcast_S_S16384x256 : S_.BroadcastsInDim S16384x256 (![] : Fin 0 → Fin S16384x256.rank)
  reducesTo_S16384x256_S_d0_1 : S16384x256.ReducesTo [0, 1] S_

variable [Facts]

def fn_part1 {F : FTy → Type} [FloatOps F] (main_v14 : IVec S_ 1) (main_v16 : FVec F S16384x256 .f32) (main_cst_4 : FVec F S_ .f32) : IVec S_ 1 :=
  let main_v17 : FVec F S16384x256 .f32 := broadcastInDim S16384x256 ![] bcast_S_S16384x256 main_cst_4
  let main_v18 : IVec S16384x256 1 := cmpf .olt main_v16 main_v17
  let main_c_5 : IVec S_ 1 := constantI S_ 1 1#1
  let main_v19 : IVec S_ 1 := (fun x v => Host.reduce IntOp.andi x v reducesTo_S16384x256_S_d0_1 h_S_) main_v18 main_c_5
  let main_v20 : IVec S_ 1 := andi main_v14 main_v19
  main_v20

def fn {F : FTy → Type} [FloatOps F] (main_arg0 : FVec F S16 .f32) (main_arg1 : FVec F S16 .f32) (main_arg2 : FVec F S16384x1024 .bf16) (main_arg3 : FVec F S16384x256 .bf16) (main_arg4 : FVec F S16384x256 .bf16) : IVec S_ 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16384x1024 .f32 := (extf .f32 · bitsLt_bf16_f32) main_arg2
  let main_v10 : FVec F S16384x1024 .f32 := Host.absf main_v9
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_c_3 : IVec S_ 1 := constantI S_ 1 1#1
  let main_v13 : IVec S_ 1 := (fun x v => Host.reduce IntOp.andi x v reducesTo_S16384x1024_S_d0_1 h_S_) main_v12 main_c_3
  let main_v14 : IVec S_ 1 := andi main_v8 main_v13
  let main_v15 : FVec F S16384x256 .f32 := (extf .f32 · bitsLt_bf16_f32) main_arg3
  let main_v16 : FVec F S16384x256 .f32 := Host.absf main_v15
  let main_cst_4 : FVec F S_ .f32 := constant S_ .f32 0x7F800000#32
  fn_part1 (F := F) main_v14 main_v16 main_cst_4
-- ==== Kernel.lean ====
abbrev S16 : Shape := ⟨1, ![16]⟩
abbrev S16384x1024 : Shape := ⟨2, ![16384, 1024]⟩
abbrev S16384x256 : Shape := ⟨2, ![16384, 256]⟩
abbrev S128x1024 : Shape := ⟨2, ![128, 1024]⟩
abbrev S128x256 : Shape := ⟨2, ![128, 256]⟩
abbrev S128x128 : Shape := ⟨2, ![128, 128]⟩
abbrev S256x128 : Shape := ⟨2, ![256, 128]⟩
abbrev S256x256 : Shape := ⟨2, ![256, 256]⟩
abbrev S512x128 : Shape := ⟨2, ![512, 128]⟩
abbrev S512x256 : Shape := ⟨2, ![512, 256]⟩
abbrev S1 : Shape := ⟨1, ![1]⟩
abbrev S128 : Shape := ⟨1, ![128]⟩
abbrev S128x1 : Shape := ⟨2, ![128, 1]⟩

abbrev nBuf : Space → Nat
  | .hbm => 6
  | .vmem => 12
  | .smem => 2
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S16384x1024, .bf16⟩
  | .hbm, ⟨3, _⟩ => ⟨S16384x256, .bf16⟩
  | .hbm, ⟨4, _⟩ => ⟨S16384x256, .bf16⟩
  | .hbm, ⟨5, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .bf16⟩
  | .local _ .vmem, ⟨11, _⟩ => ⟨S128x1024, .bf16⟩
  | .local _ .smem, ⟨0, _⟩ => ⟨S16, .f32⟩
  | .local _ .smem, ⟨1, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16 : Shape := ⟨1, ![16]⟩
abbrev S16384x1024 : Shape := ⟨2, ![16384, 1024]⟩
abbrev S16384x256 : Shape := ⟨2, ![16384, 256]⟩
abbrev S128x128x4x4x64 : Shape := ⟨5, ![128, 128, 4, 4, 64]⟩
abbrev S16384x4x64 : Shape := ⟨3, ![16384, 4, 64]⟩
abbrev S_ : Shape := ⟨0, ![]⟩
abbrev S16512x4x64 : Shape := ⟨3, ![16512, 4, 64]⟩
abbrev S129x128x4x64 : Shape := ⟨4, ![129, 128, 4, 64]⟩
abbrev S128x128x4x64 : Shape := ⟨4, ![128, 128, 4, 64]⟩
abbrev S128x256x4x64 : Shape := ⟨4, ![128, 256, 4, 64]⟩
abbrev S128x4x256x128x4 : Shape := ⟨5, ![128, 4, 256, 128, 4]⟩
abbrev S128x4x4x128x256 : Shape := ⟨5, ![128, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S128x1x256 : Shape := ⟨3, ![128, 1, 256]⟩
abbrev S128x128x256 : Shape := ⟨3, ![128, 128, 256]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x4x4x128x256 : Shape := ⟨5, ![1, 4, 4, 128, 256]⟩
abbrev S128x1x1x128x256 : Shape := ⟨5, ![128, 1, 1, 128, 256]⟩
abbrev S1x4x4x1x1 : Shape := ⟨5, ![1, 4, 4, 1, 1]⟩
abbrev S128x4x4x128 : Shape := ⟨4, ![128, 4, 4, 128]⟩
abbrev S128x4x4x128x1 : Shape := ⟨5, ![128, 4, 4, 128, 1]⟩
abbrev S128x4x64x4x128 : Shape := ⟨5, ![128, 4, 64, 4, 128]⟩

abbrev nBuf : Space → Nat
  | .hbm => 103
  | .vmem => 0
  | .smem => 0
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S16384x1024, .bf16⟩
  | .hbm, ⟨3, _⟩ => ⟨S16384x256, .bf16⟩
  | .hbm, ⟨4, _⟩ => ⟨S16384x256, .bf16⟩
  | .hbm, ⟨5, _⟩ => ⟨S16384x1024, .f32⟩
  | .hbm, ⟨6, _⟩ => ⟨S128x128x4x4x64, .f32⟩
  | .hbm, ⟨7, _⟩ => ⟨S16384x256, .f32⟩
  | .hbm, ⟨8, _⟩ => ⟨S16384x4x64, .f32⟩
  | .hbm, ⟨9, _⟩ => ⟨S_, .i32⟩
  | .hbm, ⟨10, _⟩ => ⟨S_, .f32⟩
  | .hbm, ⟨11, _⟩ => ⟨S16512x4x64, .f32⟩
  | .hbm, ⟨12, _⟩ => ⟨S129x128x4x64, .f32⟩
  | .hbm, ⟨13, _⟩ => ⟨S16384x256, .f32⟩
  | .hbm, ⟨14, _⟩ => ⟨S16384x4x64, .f32⟩
  | .hbm, ⟨15, _⟩ => ⟨S_, .i32⟩
  | .hbm, ⟨16, _⟩ => ⟨S_, .f32⟩
  | .hbm, ⟨17, _⟩ => ⟨S16512x4x64, .f32⟩
  | .hbm, ⟨18, _⟩ => ⟨S129x128x4x64, .f32⟩
  | .hbm, ⟨19, _⟩ => ⟨S128x128x4x64, .f32⟩
  | .hbm, ⟨20, _⟩ => ⟨S128x128x4x64, .f32⟩
  | .hbm, ⟨21, _⟩ => ⟨S128x256x4x64, .f32⟩
  | .hbm, ⟨22, _⟩ => ⟨S128x128x4x64, .f32⟩
  | .hbm, ⟨23, _⟩ => ⟨S128x128x4x64, .f32⟩
  | .hbm, ⟨24, _⟩ => ⟨S128x256x4x64, .f32⟩
  | .hbm, ⟨25, _⟩ => ⟨S128x4x256x128x4, .f32⟩
  | .hbm, ⟨26, _⟩ => ⟨S128x4x4x128x256, .f32⟩
  | .hbm, ⟨27, _⟩ => ⟨S_, .f32⟩
  | .hbm, ⟨28, _⟩ => ⟨S128x4x4x128x256, .f32⟩
  | .hbm, ⟨29, _⟩ => ⟨S128x4x4x128x256, .f32⟩
  | .hbm, ⟨30, _⟩ => ⟨S128, .i32⟩
  | .hbm, ⟨31, _⟩ => ⟨S128x1, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S128, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S_, .i32⟩
  | .hbm, ⟨53, _⟩ => ⟨S128x1, .i32⟩
  | .hbm, ⟨54, _⟩ => ⟨S128x1, .i32⟩
  | .hbm, ⟨55, _⟩ => ⟨S128x256, .i32⟩
  | .hbm, ⟨56, _⟩ => ⟨S128x256, .i32⟩
  | .hbm, ⟨57, _⟩ => ⟨S128x256, .i32⟩
  | .hbm, ⟨58, _⟩ => ⟨S1x128x256, .i1⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S128x1x256, .i1⟩
  | .hbm, ⟨63, _⟩ => ⟨S128x128x256, .i1⟩
  | .hbm, ⟨64, _⟩ => ⟨S128x128x256, .i1⟩
  | .hbm, ⟨65, _⟩ => ⟨S128x128x256, .i1⟩
  | .hbm, ⟨66, _⟩ => ⟨S4x4x1x1, .f32⟩
  | .hbm, ⟨67, _⟩ => ⟨S128x256, .f32⟩
  | .hbm, ⟨68, _⟩ => ⟨S1x1x128x256, .f32⟩
  | .hbm, ⟨69, _⟩ => ⟨S4x4x128x256, .f32⟩
  | .hbm, ⟨70, _⟩ => ⟨S4x4x128x256, .f32⟩
  | .hbm, ⟨71, _⟩ => ⟨S4x4x128x256, .f32⟩
  | .hbm, ⟨72, _⟩ => ⟨S1x4x4x128x256, .f32⟩
  | .hbm, ⟨73, _⟩ => ⟨S128x4x4x128x256, .f32⟩
  | .hbm, ⟨74, _⟩ => ⟨S128x4x4x128x256, .f32⟩
  | .hbm, ⟨75, _⟩ => ⟨S128x1x1x128x256, .i1⟩
  | .hbm, ⟨76, _⟩ => ⟨S_, .f32⟩
  | .hbm, ⟨77, _⟩ => ⟨S_, .f32⟩
  | .hbm, ⟨78, _⟩ => ⟨S128x4x4x128x256, .i1⟩
  | .hbm, ⟨79, _⟩ => ⟨S128x4x4x128x256, .f32⟩
  | .hbm, ⟨80, _⟩ => ⟨S128x4x4x128x256, .f32⟩
  | .hbm, ⟨81, _⟩ => ⟨S1x4x4x1x1, .f32⟩
  | .hbm, ⟨82, _⟩ => ⟨S_, .f32⟩
  | .hbm, ⟨83, _⟩ => ⟨S128x4x4x128, .f32⟩
  | .hbm, ⟨84, _⟩ => ⟨S128x4x4x128x1, .f32⟩
  | .hbm, ⟨85, _⟩ => ⟨S128x4x4x128x1, .f32⟩
  | .hbm, ⟨86, _⟩ => ⟨S128x4x4x128x1, .f32⟩
  | .hbm, ⟨87, _⟩ => ⟨S128x4x4x128x256, .f32⟩
  | .hbm, ⟨88, _⟩ => ⟨S128x4x4x128x256, .f32⟩
  | .hbm, ⟨89, _⟩ => ⟨S128x4x4x128x256, .f32⟩
  | .hbm, ⟨90, _⟩ => ⟨S_, .f32⟩
  | .hbm, ⟨91, _⟩ => ⟨S128x4x4x128, .f32⟩
  | .hbm, ⟨92, _⟩ => ⟨S128x4x4x128x1, .f32⟩
  | .hbm, ⟨93, _⟩ => ⟨S128x4x4x128x1, .f32⟩
  | .hbm, ⟨94, _⟩ => ⟨S128x4x4x128x1, .f32⟩
  | .hbm, ⟨95, _⟩ => ⟨S128x4x4x128x1, .f32⟩
  | .hbm, ⟨96, _⟩ => ⟨S128x4x4x128x1, .f32⟩
  | .hbm, ⟨97, _⟩ => ⟨S128x4x4x128x256, .f32⟩
  | .hbm, ⟨98, _⟩ => ⟨S128x4x4x128x256, .f32⟩
  | .hbm, ⟨99, _⟩ => ⟨S128x4x64x4x128, .f32⟩
  | .hbm, ⟨100, _⟩ => ⟨S128x128x4x4x64, .f32⟩
  | .hbm, ⟨101, _⟩ => ⟨S16384x1024, .f32⟩
  | .hbm, ⟨102, _⟩ => ⟨S16384x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_c_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Kernel2.lean ====
abbrev S16384x1024 : Shape := ⟨2, ![16384, 1024]⟩
abbrev S1x9216 : Shape := ⟨2, ![1, 9216]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9216, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1x9216 : Shape := ⟨2, ![1, 9216]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Kernel3.lean ====
abbrev S16384x1024 : Shape := ⟨2, ![16384, 1024]⟩
abbrev S1x9216 : Shape := ⟨2, ![1, 9216]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9216, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S1x9216 : Shape := ⟨2, ![1, 9216]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Kernel4.lean ====
abbrev S16384x1024 : Shape := ⟨2, ![16384, 1024]⟩
abbrev S1x9216 : Shape := ⟨2, ![1, 9216]⟩
abbrev S1024x6672 : Shape := ⟨2, ![1024, 6672]⟩
abbrev S16x512 : Shape := ⟨2, ![16, 512]⟩
abbrev S512 : Shape := ⟨1, ![512]⟩
abbrev S_ : Shape := ⟨0, ![]⟩
abbrev S128x512 : Shape := ⟨2, ![128, 512]⟩
abbrev S1024x512 : Shape := ⟨2, ![1024, 512]⟩
abbrev S1024x1024 : Shape := ⟨2, ![1024, 1024]⟩
abbrev S1024x16 : Shape := ⟨2, ![1024, 16]⟩
abbrev S1024x256 : Shape := ⟨2, ![1024, 256]⟩
abbrev S1024x128 : Shape := ⟨2, ![1024, 128]⟩
abbrev S1x512 : Shape := ⟨2, ![1, 512]⟩
abbrev S16384x512 : Shape := ⟨2, ![16384, 512]⟩
abbrev S16384x256 : Shape := ⟨2, ![16384, 256]⟩
abbrev S512x1024 : Shape := ⟨2, ![512, 1024]⟩
abbrev S512x512 : Shape := ⟨2, ![512, 512]⟩
abbrev S512x256 : Shape := ⟨2, ![512, 256]⟩
abbrev S1x1024 : Shape := ⟨2, ![1, 1024]⟩
abbrev S512x128 : Shape := ⟨2, ![512, 128]⟩

abbrev nBuf : Space → Nat
  | .hbm => 43
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S1024x6672, .f32⟩
  | .hbm, ⟨3, _⟩ => ⟨S16x512, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S1024x512, .f32⟩
  | .hbm, ⟨10, _⟩ => ⟨S1024x512, .bf16⟩
  | .hbm, ⟨11, _⟩ => ⟨S1024x512, .f32⟩
  | .hbm, ⟨12, _⟩ => ⟨S1024x512, .bf16⟩
  | .hbm, ⟨13, _⟩ => ⟨S1024x1024, .f32⟩
  | .hbm, ⟨14, _⟩ => ⟨S1024x1024, .bf16⟩
  | .hbm, ⟨15, _⟩ => ⟨S1024x16, .f32⟩
  | .hbm, ⟨16, _⟩ => ⟨S1024x16, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x256, .f32⟩
  | .hbm, ⟨22, _⟩ => ⟨S1024x256, .bf16⟩
  | .hbm, ⟨23, _⟩ => ⟨S1024x256, .f32⟩
  | .hbm, ⟨24, _⟩ => ⟨S1024x256, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S_, .i32⟩
  | .hbm, ⟨30, _⟩ => ⟨S_, .bf16⟩
  | .hbm, ⟨31, _⟩ => ⟨S1024x128, .bf16⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x1024, .bf16⟩
  | .hbm, ⟨36, _⟩ => ⟨S16384x512, .f32⟩
  | .hbm, ⟨37, _⟩ => ⟨S16384x1024, .f32⟩
  | .hbm, ⟨38, _⟩ => ⟨S16384x1024, .bf16⟩
  | .hbm, ⟨39, _⟩ => ⟨S16384x256, .bf16⟩
  | .hbm, ⟨40, _⟩ => ⟨S16384x256, .bf16⟩
  | .hbm, ⟨41, _⟩ => ⟨S16384x1024, .f32⟩
  | .hbm, ⟨42, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9216, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x128, .bf16⟩
  | .local _ .vmem, ⟨7, _⟩ => ⟨S128x512, .bf16⟩
  | .local _ .vmem, ⟨8, _⟩ => ⟨S1x512, .f32⟩
  | .local _ .vmem, ⟨9, _⟩ => ⟨S1024x1024, .bf16⟩
  | .local _ .vmem, ⟨10, _⟩ => ⟨S1024x1024, .bf16⟩
  | .local _ .vmem, ⟨11, _⟩ => ⟨S1024x256, .bf16⟩
  | .local _ .vmem, ⟨12, _⟩ => ⟨S1024x256, .bf16⟩
  | .local _ .vmem, ⟨13, _⟩ => ⟨S1024x1024, .bf16⟩
  | .local _ .vmem, ⟨14, _⟩ => ⟨S1024x1024, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .bf16⟩
  | .local _ .vmem, ⟨21, _⟩ => ⟨S512x512, .f32⟩
  | .local _ .vmem, ⟨22, _⟩ => ⟨S512x512, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_call1_v0 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev main_v24_6 : Ref sig .tc := ⟨.hbm, 39, rfl⟩
abbrev main_v24_7 : Ref sig .tc := ⟨.hbm, 40, rfl⟩
abbrev main_v24_8 : Ref sig .tc := ⟨.hbm, 41, rfl⟩
abbrev main_v24_9 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference4Ideal.lean ====
abbrev S16384x1024 : Shape := ⟨2, ![16384, 1024]⟩
abbrev S1x9216 : Shape := ⟨2, ![1, 9216]⟩
abbrev S1024x6672 : Shape := ⟨2, ![1024, 6672]⟩
abbrev S16x512 : Shape := ⟨2, ![16, 512]⟩
abbrev S512 : Shape := ⟨1, ![512]⟩
abbrev S1x1024 : Shape := ⟨2, ![1, 1024]⟩
abbrev S_ : Shape := ⟨0, ![]⟩
abbrev S16384x6672 : Shape := ⟨2, ![16384, 6672]⟩
abbrev S16384x512 : Shape := ⟨2, ![16384, 512]⟩
abbrev S16384x16 : Shape := ⟨2, ![16384, 16]⟩
abbrev S16384x256 : Shape := ⟨2, ![16384, 256]⟩
abbrev S1x512 : Shape := ⟨2, ![1, 512]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S1024x6672, .f32⟩
  | .hbm, ⟨3, _⟩ => ⟨S16x512, .f32⟩
  | .hbm, ⟨4, _⟩ => ⟨S512, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x6672, .f32⟩
  | .hbm, ⟨22, _⟩ => ⟨S16384x512, .f32⟩
  | .hbm, ⟨23, _⟩ => ⟨S16384x512, .f32⟩
  | .hbm, ⟨24, _⟩ => ⟨S16384x1024, .f32⟩
  | .hbm, ⟨25, _⟩ => ⟨S16384x16, .f32⟩
  | .hbm, ⟨26, _⟩ => ⟨S16384x1024, .f32⟩
  | .hbm, ⟨27, _⟩ => ⟨S16384x1024, .f32⟩
  | .hbm, ⟨28, _⟩ => ⟨S16384x256, .f32⟩
  | .hbm, ⟨29, _⟩ => ⟨S16384x256, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S1x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .i1⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x1024, .bf16⟩
  | .hbm, ⟨59, _⟩ => ⟨S16384x1024, .bf16⟩
  | .hbm, ⟨60, _⟩ => ⟨S16384x256, .bf16⟩
  | .hbm, ⟨61, _⟩ => ⟨S16384x256, .bf16⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S_, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_2 : Ref sig .tc := ⟨.hbm, 73, rfl⟩
abbrev main_v42 : Ref sig .tc := ⟨.hbm, 74, rfl⟩
abbrev main_v43 : Ref sig .tc := ⟨.hbm, 75, rfl⟩
abbrev main_cst_3 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_4 : Ref sig .tc := ⟨.hbm, 81, rfl⟩
abbrev main_v48 : Ref sig .tc := ⟨.hbm, 82, rfl⟩
abbrev main_v49 : Ref sig .tc := ⟨.hbm, 83, rfl⟩
abbrev main_cst_5 : Ref sig .tc := ⟨.hbm, 84, rfl⟩
abbrev main_v50 : Ref sig .tc := ⟨.hbm, 85, rfl⟩
abbrev main_v51 : Ref sig .tc := ⟨.hbm, 86, rfl⟩

abbrev nD : Nat := 1
abbrev τ : Topo := Topo.v7x

variable {F : FTy → Type} [FloatOps F]
-- ==== Kernel5.lean ====
abbrev S16384x1024 : Shape := ⟨2, ![16384, 1024]⟩
abbrev S1x9216 : Shape := ⟨2, ![1, 9216]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9216, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x1024 : Shape := ⟨2, ![16384, 1024]⟩
abbrev S1x9216 : Shape := ⟨2, ![1, 9216]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel6.lean ====
abbrev S1x1024 : Shape := ⟨2, ![1, 1024]⟩
abbrev S1024x9216 : Shape := ⟨2, ![1024, 9216]⟩
abbrev S9216 : Shape := ⟨1, ![9216]⟩
abbrev S1x9216 : Shape := ⟨2, ![1, 9216]⟩
abbrev S1024x1536 : Shape := ⟨2, ![1024, 1536]⟩
abbrev S1x1536 : Shape := ⟨2, ![1, 1536]⟩
abbrev S8x1024 : Shape := ⟨2, ![8, 1024]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024x9216, .f32⟩
  | .hbm, ⟨2, _⟩ => ⟨S9216, .f32⟩
  | .hbm, ⟨3, _⟩ => ⟨S1x9216, .f32⟩
  | .hbm, ⟨4, _⟩ => ⟨S1x9216, .f32⟩
  | .local _ .vmem, ⟨0, _⟩ => ⟨S1x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S1x1024 : Shape := ⟨2, ![1, 1024]⟩
abbrev S1024x9216 : Shape := ⟨2, ![1024, 9216]⟩
abbrev S9216 : Shape := ⟨1, ![9216]⟩
abbrev S_ : Shape := ⟨0, ![]⟩
abbrev S1x9216 : Shape := ⟨2, ![1, 9216]⟩

abbrev nBuf : Space → Nat
  | .hbm => 15
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024x9216, .f32⟩
  | .hbm, ⟨2, _⟩ => ⟨S9216, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x9216, .f32⟩
  | .hbm, ⟨13, _⟩ => ⟨S1x9216, .f32⟩
  | .hbm, ⟨14, _⟩ => ⟨S1x9216, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.SwaRows.lean ====
/-
  Windowed attention over the extended reals, free of any program: which keys a query sees, a head's masked scores, its
  softmax weights with a sink, and its result row.
-/
module

public import Idealize.ShloMosaic.Lib.Pointwise
public import Idealize.ShloMosaic.Lib.WordCmp

@[expose] public section

set_option maxRecDepth 16384

noncomputable section

namespace Cert.SwaRows

open Idealize.ShloMosaic

/-- How far key `j` of the two blocks lies before query `q` of the second block, as a word. -/
def distWord (q : Fin 128) (j : Fin 256) : BitVec 32 := IntOp.subi (IntOp.addi (BitVec.ofNat 32 q.val) 128#32) (BitVec.ofNat 32 j.val)

/-- Whether query `q` of block `n` sees key `j` of the blocks `n - 1` and `n`: inside the window, and not before the sequence. -/
def seen (n q : Fin 128) (j : Fin 256) : BitVec 1 :=
  IntOp.andi (IntOp.andi (IntOp.cmpi .sge (distWord q j) 0#32) (IntOp.cmpi .slt (distWord q j) 128#32))
    (IntOp.cmpi .sge (BitVec.ofNat 32 j.val) (Scalar.select (IntOp.cmpi .eq (BitVec.ofNat 32 n.val) 0#32) 128#32 0#32))

/-- The distance as a number. -/
def distVal (q : Fin 128) (j : Fin 256) : EReal := FloatOps.sitofp (F := Ideal) .f32 (distWord q j)

/-- A head's masked scores, from its products `s`, its slope and the query's view of the keys. -/
def masked (ok : Fin 256 → BitVec 1) (dist s : Fin 256 → EReal) (a : EReal) (j : Fin 256) : EReal :=
  Scalar.select (ok j) (s j * Ideal.ofBits .f32 0x3E000000#32 - a * dist j) ⊥

/-- The largest of the scores and the sink. -/
def top (z : Fin 256 → EReal) (b : EReal) : EReal := max (Finset.univ.fold max (Ideal.ofBits .f32 0xFF800000#32) z) b

/-- The softmax denominator, the sink counted. -/
def den (z : Fin 256 → EReal) (b : EReal) : EReal := ∑ j, Ideal.exp (z j - top z b) + Ideal.exp (b - top z b)

/-- A softmax weight: the exponential divided by the denominator. -/
def weight (z : Fin 256 → EReal) (b : EReal) (j : Fin 256) : EReal := Ideal.div (Ideal.exp (z j - top z b)) (den z b)

/-- A softmax weight as the exponential times the denominator's reciprocal. -/
def weightR (z : Fin 256 → EReal) (b : EReal) (j : Fin 256) : EReal := Ideal.exp (z j - top z b) * Ideal.div 1 (den z b)

/-- The row of the keys and values that stands at place `j` of block `n`'s two blocks; for the first block, whose first
    128 places no query sees, its own rows. -/
def src (n : Fin 128) (j : Fin 256) : Fin 16384 :=
  if j.val < 128 then ⟨(n.val - 1) * 128 + j.val % 128, by omega⟩ else ⟨n.val * 128 + (j.val - 128), by omega⟩

/-- The head that column `d` of the result belongs to, the columns of its key head, and the column's own key column. -/
def headOf (d : Fin 1024) : Fin 16 := ⟨d.val / 64, by omega⟩
def keyCol (d : Fin 1024) (e : Fin 64) : Fin 256 := ⟨d.val / 256 * 64 + e.val, by omega⟩
def queryCol (d : Fin 1024) (e : Fin 64) : Fin 1024 := ⟨d.val / 64 * 64 + e.val, by omega⟩
def valueCol (d : Fin 1024) : Fin 256 := ⟨d.val / 256 * 64 + d.val % 64, by omega⟩

/-- Row `t = 128 n + q` of the sequence. -/
def blockOf (t : Fin 16384) : Fin 128 := ⟨t.val / 128, by omega⟩
def placeOf (t : Fin 16384) : Fin 128 := ⟨t.val % 128, by omega⟩

/-- The mask bit of a lane: whether it is one of the first 64. -/
theorem lane_bit : ∀ l : Fin 128, IntOp.cmpi .slt (BitVec.ofNat 32 l.val) 64#32 = if l.val < 64 then 1#1 else 0#1 := by
  decide +kernel

theorem select_one {α : Type} (x y : α) : Scalar.select 1#1 x y = x := rfl
theorem select_zero {α : Type} (x y : α) : Scalar.select 0#1 x y = y := rfl

/-- A sum over 128 lanes in halves. -/
theorem sum_halves (f : Fin 128 → EReal) : ∑ l, f l = ∑ e : Fin 64, f ⟨e.val, by omega⟩ + ∑ e : Fin 64, f ⟨64 + e.val, by omega⟩ :=
  Fin.sum_univ_add (a := 64) (b := 64) f

/-- A product whose row is zero outside the first 64 lanes. -/
theorem sum_low (q k : Fin 128 → EReal) :
    ∑ l, Scalar.select (IntOp.cmpi .slt (BitVec.ofNat 32 l.val) 64#32) (q l) 0 * k l = ∑ e : Fin 64, q ⟨e.val, by omega⟩ * k ⟨e.val, by omega⟩ := by
  rw [sum_halves]
  refine (congrArg₂ (· + ·) (Finset.sum_congr rfl fun e _ => ?_) (Finset.sum_eq_zero fun e _ => ?_)).trans (add_zero _)
  · rw [lane_bit, if_pos (by simp), select_one]
  · rw [lane_bit, if_neg (by simp), select_zero, zero_mul]

/-- A product whose row is zero outside the last 64 lanes. -/
theorem sum_high (q k : Fin 128 → EReal) :
    ∑ l, Scalar.select (IntOp.cmpi .slt (BitVec.ofNat 32 l.val) 64#32) 0 (q l) * k l = ∑ e : Fin 64, q ⟨64 + e.val, by omega⟩ * k ⟨64 + e.val, by omega⟩ := by
  rw [sum_halves]
  refine (congrArg₂ (· + ·) (Finset.sum_eq_zero fun e _ => ?_) (Finset.sum_congr rfl fun e _ => ?_)).trans (zero_add _)
  · rw [lane_bit, if_pos (by simp), select_one, zero_mul]
  · rw [lane_bit, if_neg (by simp), select_zero]

end Cert.SwaRows

end
-- ==== Proof.SwaBlocks.lean ====
/-
  The windowed attention call: what one grid point stores, entry by entry. The body's stores are first written as one
  vector function of the two key heads' halves and of the heads' slopes and sinks, and that function is read at an entry.
-/
module

public import proofs.«01_k».proof.Proof.Gen.KernelIdeal.Value
public import proofs.«01_k».proof.Proof.SwaRows
public import Idealize.ShloMosaic.Lib.Claim
public import Idealize.ShloMosaic.Lib.Pipeline.ValueKit

@[expose] public section

set_option maxRecDepth 16384

noncomputable section

namespace Cert.SwaKernel

open Idealize.ShloMosaic Idealize.ShloMosaic.TcCoe Idealize.SL.Sem
open Cert.KernelIdeal Cert.KernelIdeal.Gen Cert.SwaRows

/-- A head's softmax weights, from its scaled scores, its slope and its sink. -/
def probs (ok : IVec S128x256 1) (dist s : FVec Ideal S128x256 .f32) (a b : Elt Ideal .f32) : FVec Ideal S128x256 .bf16 :=
  let z : FVec Ideal S128x256 .f32 := select ok (subf s (mulf (broadcast S128x256 a) dist)) (broadcast S128x256 (Named.named (F := Ideal) κ "mask" 0xF149F2CA#32))
  let top : FVec Ideal S128x1 .f32 := maximumf (shapeCast S128x1 (multiReduction .maximumf [1] S128 z 0xFF800000#32 reduces_S128x256_S128 (.inl rfl) rfl) shapeCasts_S128_S128x1) (broadcast S128x1 b)
  let e : FVec Ideal S128x256 .f32 := exp (subf z (broadcastTo S128x256 top broadcasts_S128x1_S128x256))
  let den : FVec Ideal S128x1 .f32 := addf (shapeCast S128x1 (multiReduction .add [1] S128 e 0x00000000#32 reduces_S128x256_S128 (.inl rfl) rfl) shapeCasts_S128_S128x1) (exp (subf (broadcast S128x1 b) top))
  truncf .bf16 (mulf e (broadcastTo S128x256 (divf (broadcast S128x1 (Scalar.ofBits (F := Ideal) .f32 0x3F800000#32)) den) broadcasts_S128x1_S128x256)) bitsLt_bf16_f32

/-- The four heads of one key head, stacked by rows: their weights times the values. -/
def heads (ok : IVec S128x256 1) (dist : FVec Ideal S128x256 .f32) (s : FVec Ideal S512x256 .f32) (v2 : FVec Ideal S256x128 .bf16)
    (a0 b0 a1 b1 a2 b2 a3 b3 : Elt Ideal .f32) : FVec Ideal S512x128 .f32 :=
  matmul dot_S512x256_S256x128_S512x128_1_0_0_1_n_n none
    (concatenate S512x256 0 [⟨S128x256, probs ok dist (extractStridedSlice S128x256 ![0, 0] s slices_S512x256_o0_0_S128x256) a0 b0⟩,
      ⟨S128x256, probs ok dist (extractStridedSlice S128x256 ![128, 0] s slices_S512x256_o128_0_S128x256) a1 b1⟩,
      ⟨S128x256, probs ok dist (extractStridedSlice S128x256 ![256, 0] s slices_S512x256_o256_0_S128x256) a2 b2⟩,
      ⟨S128x256, probs ok dist (extractStridedSlice S128x256 ![384, 0] s slices_S512x256_o384_0_S128x256) a3 b3⟩]
      concatenates_S128x256_S128x256_S128x256_S128x256_S512x256_d0) v2 (constant S512x128 .f32 0x00000000#32)

/-- One key head's columns, twice over the 128 lanes: it lies in the first 64 lanes of `w` (`dupLo`) or in the last 64 (`dupHi`). -/
def dupLo (w : FVec Ideal S256x128 .f32) : FVec Ideal S256x128 .bf16 := truncf .bf16 (select k0_pay8 w (dynamicRotate 1 64#32 none w rotates_S256x128_d1)) bitsLt_bf16_f32
def dupHi (w : FVec Ideal S256x128 .f32) : FVec Ideal S256x128 .bf16 := truncf .bf16 (select k0_pay8 (dynamicRotate 1 64#32 none w rotates_S256x128_d1) w) bitsLt_bf16_f32

/-- The first and the last 128 lanes of the staged keys or values. -/
def half0 (x : FVec Ideal S256x256 .f32) : FVec Ideal S256x128 .f32 := extractStridedSlice S256x128 ![0, 0] x slices_S256x256_o0_0_S256x128
def half1 (x : FVec Ideal S256x256 .f32) : FVec Ideal S256x128 .f32 := extractStridedSlice S256x128 ![0, 128] x slices_S256x256_o0_128_S256x128

/-- The four heads' scaled scores, stacked by rows, of two pairs of query heads. -/
def scores (k2 : FVec Ideal S256x128 .bf16) (q0 q1 : FVec Ideal S128x128 .bf16) : FVec Ideal S512x256 .f32 := k0_pay14 k0_pay7 k2 k0_pay13 q0 q1

/-- The two stores of a key head: the first and the second pair of heads, side by side. -/
def pairA (r : FVec Ideal S512x128 .f32) : FVec Ideal S128x128 .bf16 :=
  truncf .bf16 (select k0_pay7 (extractStridedSlice S128x128 ![0, 0] r slices_S512x128_o0_0_S128x128) (extractStridedSlice S128x128 ![128, 0] r slices_S512x128_o128_0_S128x128)) bitsLt_bf16_f32
def pairB (r : FVec Ideal S512x128 .f32) : FVec Ideal S128x128 .bf16 :=
  truncf .bf16 (select k0_pay7 (extractStridedSlice S128x128 ![256, 0] r slices_S512x128_o256_0_S128x128) (extractStridedSlice S128x128 ![384, 0] r slices_S512x128_o384_0_S128x128)) bitsLt_bf16_f32

/-- The named mask constant is −∞. -/
theorem mask_bot : (Named.named (F := Ideal) κ "mask" (φ := .f32) 0xF149F2CA#32 : EReal) = ⊥ := rfl

theorem probs_at (ok : IVec S128x256 1) (dist s : FVec Ideal S128x256 .f32) (a b : Elt Ideal .f32) (q : Fin 128) (j : Fin 256) :
    probs ok dist s a b (ix2 q j)
      = weightR (fun j => Scalar.select (ok (ix2 q j)) (s (ix2 q j) - a * dist (ix2 q j)) ⊥) b j := by
  pointwise [probs, weightR, top, den, mask_bot]

/-- One head's result entry, from its scaled scores. -/
def headRow (ok : IVec S128x256 1) (dist : FVec Ideal S128x256 .f32) (s : Fin 128 → Fin 256 → EReal) (v : Fin 256 → EReal) (a b : EReal) (q : Fin 128) : EReal :=
  ∑ j, weightR (fun j => Scalar.select (ok (ix2 q j)) (s q j - a * dist (ix2 q j)) ⊥) b j * v j

theorem pairA_at (ok : IVec S128x256 1) (dist : FVec Ideal S128x256 .f32) (s : FVec Ideal S512x256 .f32) (v2 : FVec Ideal S256x128 .bf16)
    (a0 b0 a1 b1 a2 b2 a3 b3 : Elt Ideal .f32) (q : Fin 128) (l : Fin 128) :
    pairA (heads ok dist s v2 a0 b0 a1 b1 a2 b2 a3 b3) (ix2 q l)
      = Scalar.select (IntOp.cmpi .slt (BitVec.ofNat 32 l.val) 64#32)
          (headRow ok dist (fun q j => s (ix2 ⟨q.val, by omega⟩ j)) (fun j => v2 (ix2 j l)) a0 b0 q)
          (headRow ok dist (fun q j => s (ix2 ⟨128 + q.val, by omega⟩ j)) (fun j => v2 (ix2 j l)) a1 b1 q) := by
  pointwise [heads, pairA, k0_pay7, headRow, probs_at]

/-- Which quarter of 512 rows a row of the third or of the fourth quarter lies in. -/
theorem third (q : Fin 128) : ¬ 256 + q.val < 128 ∧ ¬ 256 + q.val - 128 < 128 ∧ 256 + q.val - 128 - 128 = q.val := by omega
theorem fourth (q : Fin 128) : ¬ 384 + q.val < 128 ∧ ¬ 384 + q.val - 128 < 128 ∧ ¬ 384 + q.val - 128 - 128 < 128
    ∧ 384 + q.val - 128 - 128 - 128 = q.val := by omega

theorem pairB_at (ok : IVec S128x256 1) (dist : FVec Ideal S128x256 .f32) (s : FVec Ideal S512x256 .f32) (v2 : FVec Ideal S256x128 .bf16)
    (a0 b0 a1 b1 a2 b2 a3 b3 : Elt Ideal .f32) (q : Fin 128) (l : Fin 128) :
    pairB (heads ok dist s v2 a0 b0 a1 b1 a2 b2 a3 b3) (ix2 q l)
      = Scalar.select (IntOp.cmpi .slt (BitVec.ofNat 32 l.val) 64#32)
          (headRow ok dist (fun q j => s (ix2 ⟨256 + q.val, by omega⟩ j)) (fun j => v2 (ix2 j l)) a2 b2 q)
          (headRow ok dist (fun q j => s (ix2 ⟨384 + q.val, by omega⟩ j)) (fun j => v2 (ix2 j l)) a3 b3 q) := by
  pointwise [heads, pairB, k0_pay7, headRow, probs_at]
  simp only [(third q).1, (third q).2.1, (third q).2.2, (fourth q).1, (fourth q).2.1, (fourth q).2.2.1, (fourth q).2.2.2, dite_false, dite_true, q.isLt, Fin.eta]

section Scores

variable (k2 : FVec Ideal S256x128 .bf16) (q0 q1 : FVec Ideal S128x128 .bf16) (q : Fin 128) (j : Fin 256)

theorem scores0 : scores k2 q0 q1 (ix2 ⟨q.val, by omega⟩ j)
    = (∑ e : Fin 64, q0 (ix2 q ⟨e.val, by omega⟩) * k2 (ix2 j ⟨e.val, by omega⟩)) * Ideal.ofBits .f32 0x3E000000#32 := by
  rw [← sum_low (fun l => q0 (ix2 q l)) (fun l => k2 (ix2 j l))]
  pointwise [scores, k0_pay14, k0_pay7, k0_pay13]

theorem scores1 : scores k2 q0 q1 (ix2 ⟨128 + q.val, by omega⟩ j)
    = (∑ e : Fin 64, q0 (ix2 q ⟨64 + e.val, by omega⟩) * k2 (ix2 j ⟨64 + e.val, by omega⟩)) * Ideal.ofBits .f32 0x3E000000#32 := by
  rw [← sum_high (fun l => q0 (ix2 q l)) (fun l => k2 (ix2 j l))]
  pointwise [scores, k0_pay14, k0_pay7, k0_pay13]

theorem scores2 : scores k2 q0 q1 (ix2 ⟨256 + q.val, by omega⟩ j)
    = (∑ e : Fin 64, q1 (ix2 q ⟨e.val, by omega⟩) * k2 (ix2 j ⟨e.val, by omega⟩)) * Ideal.ofBits .f32 0x3E000000#32 := by
  rw [← sum_low (fun l => q1 (ix2 q l)) (fun l => k2 (ix2 j l))]
  pointwise [scores, k0_pay14, k0_pay7, k0_pay13]
  simp only [(third q).1, (third q).2.1, (third q).2.2, dite_false, dite_true, q.isLt, Fin.eta]
  pointwise

theorem scores3 : scores k2 q0 q1 (ix2 ⟨384 + q.val, by omega⟩ j)
    = (∑ e : Fin 64, q1 (ix2 q ⟨64 + e.val, by omega⟩) * k2 (ix2 j ⟨64 + e.val, by omega⟩)) * Ideal.ofBits .f32 0x3E000000#32 := by
  rw [← sum_high (fun l => q1 (ix2 q l)) (fun l => k2 (ix2 j l))]
  pointwise [scores, k0_pay14, k0_pay7, k0_pay13]
  simp only [(fourth q).1, (fourth q).2.1, (fourth q).2.2.1, (fourth q).2.2.2, dite_false, dite_true, q.isLt, Fin.eta]
  pointwise

end Scores

/-- The staged keys (or values), previous block first: row `j`, column `c`. -/
def pick (p u : FVec Ideal S128x256 .bf16) (j : Fin 256) (c : Fin 256) : EReal :=
  if h : j.val < 128 then p (ix2 ⟨j.val, h⟩ c) else u (ix2 ⟨j.val - 128, by omega⟩ c)

/-- Key head `kv`'s columns, twice over the 128 lanes. -/
def Twice (w : FVec Ideal S256x128 .bf16) (p u : FVec Ideal S128x256 .bf16) (kv : Fin 4) : Prop :=
  ∀ (j : Fin 256) (l : Fin 128), w (ix2 j l) = pick p u j ⟨kv.val * 64 + l.val % 64, by omega⟩

section Dup

variable (p u : FVec Ideal S128x256 .bf16)

theorem dupLo_at (w : FVec Ideal S256x128 .f32) (j : Fin 256) (l : Fin 128) : dupLo w (ix2 j l) = w (ix2 j ⟨l.val % 64, by omega⟩) := by
  have h : dupLo w (ix2 j l) = Scalar.select (IntOp.cmpi .slt (BitVec.ofNat 32 l.val) 64#32) (w (ix2 j l)) (w (ix2 j ⟨(l.val + 128 - 64) % 128, by omega⟩)) := by
    pointwise [dupLo, k0_pay8]
  rw [h, lane_bit]
  split
  · rw [select_one]; congr 2; ext; simp; omega
  · rw [select_zero]; congr 2; ext; simp; omega

theorem dupHi_at (w : FVec Ideal S256x128 .f32) (j : Fin 256) (l : Fin 128) : dupHi w (ix2 j l) = w (ix2 j ⟨64 + l.val % 64, by omega⟩) := by
  have h : dupHi w (ix2 j l) = Scalar.select (IntOp.cmpi .slt (BitVec.ofNat 32 l.val) 64#32) (w (ix2 j ⟨(l.val + 128 - 64) % 128, by omega⟩)) (w (ix2 j l)) := by
    pointwise [dupHi, k0_pay8]
  rw [h, lane_bit]
  split
  · rw [select_one]; congr 2; ext; simp; omega
  · rw [select_zero]; congr 2; ext; simp; omega

theorem kv_at (j c : Fin 256) : k0_pay9 (F := Ideal) p u (ix2 j c) = pick p u j c := by
  pointwise [k0_pay9, pick]

theorem twice0 : Twice (dupLo (half0 (k0_pay9 (F := Ideal) p u))) p u 0 := fun j l => by
  rw [dupLo_at]; pointwise [half0, kv_at]
theorem twice1 : Twice (dupHi (half0 (k0_pay9 (F := Ideal) p u))) p u 1 := fun j l => by
  rw [dupHi_at]; pointwise [half0, kv_at]
theorem twice2 : Twice (dupLo (half1 (k0_pay9 (F := Ideal) p u))) p u 2 := fun j l => by
  rw [dupLo_at]; pointwise [half1, kv_at]
theorem twice3 : Twice (dupHi (half1 (k0_pay9 (F := Ideal) p u))) p u 3 := fun j l => by
  rw [dupHi_at]; pointwise [half1, kv_at]; congr 2; omega

end Dup

theorem ok_at (i : grid0.Coords) (q : Fin 128) (j : Fin 256) : k0_pay5 i (ix2 q j) = seen (i 0) q j := by
  pointwise [k0_pay5, k0_pay4, seen, distWord]
  try rfl

theorem dist_at (q : Fin 128) (j : Fin 256) : k0_pay6 (F := Ideal) (ix2 q j) = distVal q j := by
  pointwise [k0_pay6, k0_pay4, distVal, distWord]

/-- One entry of a block's result: place `q`, column `d`. -/
def blockAt (n : Fin 128) (slopes sinks : FVec Ideal S16 .f32) (x : FVec Ideal S128x1024 .bf16) (kp ku vp vu : FVec Ideal S128x256 .bf16)
    (q : Fin 128) (d : Fin 1024) : EReal :=
  ∑ j, weightR (masked (seen n q) (distVal q) (fun j => ∑ e, x (ix2 q (queryCol d e)) * pick kp ku j (keyCol d e)) (slopes (ix1 (headOf d)))) (sinks (ix1 (headOf d))) j
    * pick vp vu j (valueCol d)

section Store

variable (i : grid0.Coords) (slopes sinks : FVec Ideal S16 .f32) (x : FVec Ideal S128x1024 .bf16) (kp ku vp vu : FVec Ideal S128x256 .bf16)
  (k2 v2 : FVec Ideal S256x128 .bf16) (kv : Fin 4) (hk : Twice k2 kp ku kv) (hv : Twice v2 vp vu kv) (q0 q1 : FVec Ideal S128x128 .bf16)
  (a0 b0 a1 b1 a2 b2 a3 b3 : Elt Ideal .f32)

include hk hv

theorem storeA (hq : ∀ (q l : Fin 128), q0 (ix2 q l) = x (ix2 q ⟨256 * kv.val + l.val, by omega⟩))
    (ha0 : a0 = slopes (ix1 ⟨4 * kv.val, by omega⟩)) (hb0 : b0 = sinks (ix1 ⟨4 * kv.val, by omega⟩))
    (ha1 : a1 = slopes (ix1 ⟨4 * kv.val + 1, by omega⟩)) (hb1 : b1 = sinks (ix1 ⟨4 * kv.val + 1, by omega⟩)) (q l : Fin 128) :
    pairA (heads (k0_pay5 i) (k0_pay6 (F := Ideal)) (scores k2 q0 q1) v2 a0 b0 a1 b1 a2 b2 a3 b3) (ix2 q l)
      = blockAt (i 0) slopes sinks x kp ku vp vu q ⟨256 * kv.val + l.val, by omega⟩ := by
  rw [pairA_at, lane_bit]
  unfold headRow blockAt masked
  simp only [scores0, scores1, ok_at, dist_at, hk _ _, hv _ _, hq, ha0, hb0, ha1, hb1, keyCol, queryCol, valueCol, headOf]
  split
  · rw [select_one]
    have e1 : (256 * kv.val + l.val) / 64 = 4 * kv.val := by omega
    have e2 : (256 * kv.val + l.val) / 256 = kv.val := by omega
    have e3 : (256 * kv.val + l.val) % 64 = l.val % 64 := by omega
    have e4 : ∀ e : Fin 64, e.val % 64 = e.val := by omega
    have e5 : ∀ e : Fin 64, 4 * kv.val * 64 + e.val = 256 * kv.val + e.val := by omega
    simp only [e1, e2, e3, e4, e5]
  · rw [select_zero]
    have e1 : (256 * kv.val + l.val) / 64 = 4 * kv.val + 1 := by omega
    have e2 : (256 * kv.val + l.val) / 256 = kv.val := by omega
    have e3 : (256 * kv.val + l.val) % 64 = l.val % 64 := by omega
    have e4 : ∀ e : Fin 64, (64 + e.val) % 64 = e.val := by omega
    have e5 : ∀ e : Fin 64, (4 * kv.val + 1) * 64 + e.val = 256 * kv.val + (64 + e.val) := by omega
    simp only [e1, e2, e3, e4, e5]

theorem storeB (hq : ∀ (q l : Fin 128), q1 (ix2 q l) = x (ix2 q ⟨256 * kv.val + 128 + l.val, by omega⟩))
    (ha2 : a2 = slopes (ix1 ⟨4 * kv.val + 2, by omega⟩)) (hb2 : b2 = sinks (ix1 ⟨4 * kv.val + 2, by omega⟩))
    (ha3 : a3 = slopes (ix1 ⟨4 * kv.val + 3, by omega⟩)) (hb3 : b3 = sinks (ix1 ⟨4 * kv.val + 3, by omega⟩)) (q l : Fin 128) :
    pairB (heads (k0_pay5 i) (k0_pay6 (F := Ideal)) (scores k2 q0 q1) v2 a0 b0 a1 b1 a2 b2 a3 b3) (ix2 q l)
      = blockAt (i 0) slopes sinks x kp ku vp vu q ⟨256 * kv.val + 128 + l.val, by omega⟩ := by
  rw [pairB_at, lane_bit]
  unfold headRow blockAt masked
  simp only [scores2, scores3, ok_at, dist_at, hk _ _, hv _ _, hq, ha2, hb2, ha3, hb3, keyCol, queryCol, valueCol, headOf]
  split
  · rw [select_one]
    have e1 : (256 * kv.val + 128 + l.val) / 64 = 4 * kv.val + 2 := by omega
    have e2 : (256 * kv.val + 128 + l.val) / 256 = kv.val := by omega
    have e3 : (256 * kv.val + 128 + l.val) % 64 = l.val % 64 := by omega
    have e4 : ∀ e : Fin 64, e.val % 64 = e.val := by omega
    have e5 : ∀ e : Fin 64, (4 * kv.val + 2) * 64 + e.val = 256 * kv.val + 128 + e.val := by omega
    simp only [e1, e2, e3, e4, e5]
  · rw [select_zero]
    have e1 : (256 * kv.val + 128 + l.val) / 64 = 4 * kv.val + 3 := by omega
    have e2 : (256 * kv.val + 128 + l.val) / 256 = kv.val := by omega
    have e3 : (256 * kv.val + 128 + l.val) % 64 = l.val % 64 := by omega
    have e4 : ∀ e : Fin 64, (64 + e.val) % 64 = e.val := by omega
    have e5 : ∀ e : Fin 64, (4 * kv.val + 3) * 64 + e.val = 256 * kv.val + 128 + (64 + e.val) := by omega
    simp only [e1, e2, e3, e4, e5]

end Store

end Cert.SwaKernel

end
-- ==== Proof.SwaForms.lean ====
/-
  The windowed attention call: its eight stores as the one vector function of `SwaBlocks`.
-/
module

public import proofs.«01_k».proof.Proof.SwaBlocks

@[expose] public section

set_option maxRecDepth 16384

noncomputable section

namespace Cert.SwaKernel

open Idealize.ShloMosaic Idealize.ShloMosaic.TcCoe Idealize.SL.Sem
open Cert.KernelIdeal Cert.KernelIdeal.Gen Cert.SwaRows

variable (i : grid0.Coords) (slopes sinks : FVec Ideal S16 .f32) (x : FVec Ideal S128x1024 .bf16) (kp ku vp vu : FVec Ideal S128x256 .bf16)
  (q0 q1 : FVec Ideal S128x128 .bf16) (a0 b0 a1 b1 a2 b2 a3 b3 : Elt Ideal .f32)

theorem form7 (r : Fin 128) (l : Fin 128) : k0_pay3 (F := Ideal) k0_pay7 (k0_pay59 k0_pay8 (k0_pay10 vp vu)) (k0_pay61 (k0_pay5 i) k0_pay6 (k0_pay60 k0_pay7 k0_pay8 (k0_pay9 kp ku) q0 q1) a0 b0) (k0_pay67 (k0_pay64 (k0_pay5 i) k0_pay6 (k0_pay60 k0_pay7 k0_pay8 (k0_pay9 kp ku) q0 q1) a1 b1) (k0_pay65 (k0_pay5 i) k0_pay6 (k0_pay60 k0_pay7 k0_pay8 (k0_pay9 kp ku) q0 q1) a1 b1) k0_pay66) (k0_pay68 (k0_pay5 i) k0_pay6 (k0_pay60 k0_pay7 k0_pay8 (k0_pay9 kp ku) q0 q1) a2 b2) (k0_pay71 (k0_pay5 i) k0_pay6 (k0_pay60 k0_pay7 k0_pay8 (k0_pay9 kp ku) q0 q1) a3 b3) (k0_pay72 (k0_pay5 i) k0_pay6 (k0_pay60 k0_pay7 k0_pay8 (k0_pay9 kp ku) q0 q1) a3 b3) (k0_pay73 (k0_pay5 i) k0_pay6 (k0_pay60 k0_pay7 k0_pay8 (k0_pay9 kp ku) q0 q1) a3 b3) (ix2 r l)
    = pairB (heads (k0_pay5 i) (k0_pay6 (F := Ideal)) (scores (dupHi (half1 (k0_pay9 (F := Ideal) kp ku))) q0 q1)
        (dupHi (half1 (k0_pay9 (F := Ideal) vp vu))) a0 b0 a1 b1 a2 b2 a3 b3) (ix2 r l) := rfl

theorem form6 (r : Fin 128) (l : Fin 128) : k0_pay2 (F := Ideal) k0_pay7 (k0_pay59 k0_pay8 (k0_pay10 vp vu)) (k0_pay61 (k0_pay5 i) k0_pay6 (k0_pay60 k0_pay7 k0_pay8 (k0_pay9 kp ku) q0 q1) a0 b0) (k0_pay67 (k0_pay64 (k0_pay5 i) k0_pay6 (k0_pay60 k0_pay7 k0_pay8 (k0_pay9 kp ku) q0 q1) a1 b1) (k0_pay65 (k0_pay5 i) k0_pay6 (k0_pay60 k0_pay7 k0_pay8 (k0_pay9 kp ku) q0 q1) a1 b1) k0_pay66) (k0_pay68 (k0_pay5 i) k0_pay6 (k0_pay60 k0_pay7 k0_pay8 (k0_pay9 kp ku) q0 q1) a2 b2) (k0_pay71 (k0_pay5 i) k0_pay6 (k0_pay60 k0_pay7 k0_pay8 (k0_pay9 kp ku) q0 q1) a3 b3) (k0_pay72 (k0_pay5 i) k0_pay6 (k0_pay60 k0_pay7 k0_pay8 (k0_pay9 kp ku) q0 q1) a3 b3) (k0_pay73 (k0_pay5 i) k0_pay6 (k0_pay60 k0_pay7 k0_pay8 (k0_pay9 kp ku) q0 q1) a3 b3) (ix2 r l)
    = pairA (heads (k0_pay5 i) (k0_pay6 (F := Ideal)) (scores (dupHi (half1 (k0_pay9 (F := Ideal) kp ku))) q0 q1)
        (dupHi (half1 (k0_pay9 (F := Ideal) vp vu))) a0 b0 a1 b1 a2 b2 a3 b3) (ix2 r l) := rfl

theorem form5 (r : Fin 128) (l : Fin 128) : k0_pay58 (F := Ideal) k0_pay7 (k0_pay42 k0_pay8 (k0_pay10 vp vu)) (k0_pay45 (k0_pay5 i) k0_pay6 (k0_pay41 k0_pay8 (k0_pay9 kp ku)) (k0_pay43 k0_pay7 q0 q1) a0 b0) (k0_pay51 (k0_pay47 (k0_pay5 i) k0_pay6 (k0_pay41 k0_pay8 (k0_pay9 kp ku)) (k0_pay43 k0_pay7 q0 q1) a1 b1) (k0_pay48 (k0_pay5 i) k0_pay6 (k0_pay41 k0_pay8 (k0_pay9 kp ku)) (k0_pay43 k0_pay7 q0 q1) a1 b1) (k0_pay49 (k0_pay5 i) k0_pay6 (k0_pay41 k0_pay8 (k0_pay9 kp ku)) (k0_pay43 k0_pay7 q0 q1) a1 b1) (k0_pay50 b1)) (k0_pay52 (k0_pay5 i) k0_pay6 (k0_pay44 (k0_pay41 k0_pay8 (k0_pay9 kp ku)) (k0_pay43 k0_pay7 q0 q1)) a2 b2) b3 (k0_pay54 (k0_pay5 i) k0_pay6 (k0_pay44 (k0_pay41 k0_pay8 (k0_pay9 kp ku)) (k0_pay43 k0_pay7 q0 q1)) a3 b3) (k0_pay55 (k0_pay5 i) k0_pay6 (k0_pay44 (k0_pay41 k0_pay8 (k0_pay9 kp ku)) (k0_pay43 k0_pay7 q0 q1)) a3 b3) (ix2 r l)
    = pairB (heads (k0_pay5 i) (k0_pay6 (F := Ideal)) (scores (dupLo (half1 (k0_pay9 (F := Ideal) kp ku))) q0 q1)
        (dupLo (half1 (k0_pay9 (F := Ideal) vp vu))) a0 b0 a1 b1 a2 b2 a3 b3) (ix2 r l) := rfl

theorem form4 (r : Fin 128) (l : Fin 128) : k0_pay57 (F := Ideal) k0_pay7 (k0_pay42 k0_pay8 (k0_pay10 vp vu)) (k0_pay45 (k0_pay5 i) k0_pay6 (k0_pay41 k0_pay8 (k0_pay9 kp ku)) (k0_pay43 k0_pay7 q0 q1) a0 b0) (k0_pay51 (k0_pay47 (k0_pay5 i) k0_pay6 (k0_pay41 k0_pay8 (k0_pay9 kp ku)) (k0_pay43 k0_pay7 q0 q1) a1 b1) (k0_pay48 (k0_pay5 i) k0_pay6 (k0_pay41 k0_pay8 (k0_pay9 kp ku)) (k0_pay43 k0_pay7 q0 q1) a1 b1) (k0_pay49 (k0_pay5 i) k0_pay6 (k0_pay41 k0_pay8 (k0_pay9 kp ku)) (k0_pay43 k0_pay7 q0 q1) a1 b1) (k0_pay50 b1)) (k0_pay52 (k0_pay5 i) k0_pay6 (k0_pay44 (k0_pay41 k0_pay8 (k0_pay9 kp ku)) (k0_pay43 k0_pay7 q0 q1)) a2 b2) b3 (k0_pay54 (k0_pay5 i) k0_pay6 (k0_pay44 (k0_pay41 k0_pay8 (k0_pay9 kp ku)) (k0_pay43 k0_pay7 q0 q1)) a3 b3) (k0_pay55 (k0_pay5 i) k0_pay6 (k0_pay44 (k0_pay41 k0_pay8 (k0_pay9 kp ku)) (k0_pay43 k0_pay7 q0 q1)) a3 b3) (ix2 r l)
    = pairA (heads (k0_pay5 i) (k0_pay6 (F := Ideal)) (scores (dupLo (half1 (k0_pay9 (F := Ideal) kp ku))) q0 q1)
        (dupLo (half1 (k0_pay9 (F := Ideal) vp vu))) a0 b0 a1 b1 a2 b2 a3 b3) (ix2 r l) := rfl

theorem form3 (r : Fin 128) (l : Fin 128) : k0_pay40 (F := Ideal) k0_pay7 (k0_pay25 k0_pay8 (k0_pay10 vp vu)) (k0_pay30 (k0_pay5 i) k0_pay6 k0_pay7 (k0_pay24 k0_pay8 (k0_pay9 kp ku)) k0_pay26 (k0_pay27 k0_pay7 q0) (k0_pay28 k0_pay7 q0) q1 a0 b0) (k0_pay34 b1 (k0_pay32 (k0_pay5 i) k0_pay6 k0_pay7 (k0_pay24 k0_pay8 (k0_pay9 kp ku)) k0_pay26 (k0_pay27 k0_pay7 q0) (k0_pay28 k0_pay7 q0) q1 a1 b1) (k0_pay33 (k0_pay5 i) k0_pay6 k0_pay7 (k0_pay24 k0_pay8 (k0_pay9 kp ku)) k0_pay26 (k0_pay27 k0_pay7 q0) (k0_pay28 k0_pay7 q0) q1 a1 b1)) (k0_pay35 (k0_pay5 i) k0_pay6 (k0_pay29 k0_pay7 (k0_pay24 k0_pay8 (k0_pay9 kp ku)) k0_pay26 (k0_pay27 k0_pay7 q0) (k0_pay28 k0_pay7 q0) q1) a2 b2) (k0_pay36 (k0_pay5 i) k0_pay6 (k0_pay29 k0_pay7 (k0_pay24 k0_pay8 (k0_pay9 kp ku)) k0_pay26 (k0_pay27 k0_pay7 q0) (k0_pay28 k0_pay7 q0) q1) a3) b3 (k0_pay37 (k0_pay5 i) k0_pay6 (k0_pay29 k0_pay7 (k0_pay24 k0_pay8 (k0_pay9 kp ku)) k0_pay26 (k0_pay27 k0_pay7 q0) (k0_pay28 k0_pay7 q0) q1) a3) (ix2 r l)
    = pairB (heads (k0_pay5 i) (k0_pay6 (F := Ideal)) (scores (dupHi (half0 (k0_pay9 (F := Ideal) kp ku))) q0 q1)
        (dupHi (half0 (k0_pay9 (F := Ideal) vp vu))) a0 b0 a1 b1 a2 b2 a3 b3) (ix2 r l) := rfl

theorem form2 (r : Fin 128) (l : Fin 128) : k0_pay39 (F := Ideal) k0_pay7 (k0_pay25 k0_pay8 (k0_pay10 vp vu)) (k0_pay30 (k0_pay5 i) k0_pay6 k0_pay7 (k0_pay24 k0_pay8 (k0_pay9 kp ku)) k0_pay26 (k0_pay27 k0_pay7 q0) (k0_pay28 k0_pay7 q0) q1 a0 b0) (k0_pay34 b1 (k0_pay32 (k0_pay5 i) k0_pay6 k0_pay7 (k0_pay24 k0_pay8 (k0_pay9 kp ku)) k0_pay26 (k0_pay27 k0_pay7 q0) (k0_pay28 k0_pay7 q0) q1 a1 b1) (k0_pay33 (k0_pay5 i) k0_pay6 k0_pay7 (k0_pay24 k0_pay8 (k0_pay9 kp ku)) k0_pay26 (k0_pay27 k0_pay7 q0) (k0_pay28 k0_pay7 q0) q1 a1 b1)) (k0_pay35 (k0_pay5 i) k0_pay6 (k0_pay29 k0_pay7 (k0_pay24 k0_pay8 (k0_pay9 kp ku)) k0_pay26 (k0_pay27 k0_pay7 q0) (k0_pay28 k0_pay7 q0) q1) a2 b2) (k0_pay36 (k0_pay5 i) k0_pay6 (k0_pay29 k0_pay7 (k0_pay24 k0_pay8 (k0_pay9 kp ku)) k0_pay26 (k0_pay27 k0_pay7 q0) (k0_pay28 k0_pay7 q0) q1) a3) b3 (k0_pay37 (k0_pay5 i) k0_pay6 (k0_pay29 k0_pay7 (k0_pay24 k0_pay8 (k0_pay9 kp ku)) k0_pay26 (k0_pay27 k0_pay7 q0) (k0_pay28 k0_pay7 q0) q1) a3) (ix2 r l)
    = pairA (heads (k0_pay5 i) (k0_pay6 (F := Ideal)) (scores (dupHi (half0 (k0_pay9 (F := Ideal) kp ku))) q0 q1)
        (dupHi (half0 (k0_pay9 (F := Ideal) vp vu))) a0 b0 a1 b1 a2 b2 a3 b3) (ix2 r l) := rfl

theorem form1 (r : Fin 128) (l : Fin 128) : k0_pay23 (F := Ideal) k0_pay7 (k0_pay12 vp vu) (k0_pay15 (k0_pay5 i) k0_pay6 k0_pay7 (k0_pay11 kp ku) k0_pay13 q0 q1 a0 b0) (k0_pay18 (k0_pay16 (k0_pay5 i) k0_pay6 k0_pay7 (k0_pay11 kp ku) k0_pay13 q0 q1 a1) b1 (k0_pay17 (k0_pay5 i) k0_pay6 k0_pay7 (k0_pay11 kp ku) k0_pay13 q0 q1 a1)) (k0_pay19 (k0_pay5 i) k0_pay6 (k0_pay14 k0_pay7 (k0_pay11 kp ku) k0_pay13 q0 q1) a2 b2) (k0_pay20 (k0_pay5 i) k0_pay6 (k0_pay14 k0_pay7 (k0_pay11 kp ku) k0_pay13 q0 q1) a3) b3 (ix2 r l)
    = pairB (heads (k0_pay5 i) (k0_pay6 (F := Ideal)) (scores (dupLo (half0 (k0_pay9 (F := Ideal) kp ku))) q0 q1)
        (dupLo (half0 (k0_pay9 (F := Ideal) vp vu))) a0 b0 a1 b1 a2 b2 a3 b3) (ix2 r l) := rfl

theorem form0 (r : Fin 128) (l : Fin 128) : k0_pay22 (F := Ideal) k0_pay7 (k0_pay12 vp vu) (k0_pay15 (k0_pay5 i) k0_pay6 k0_pay7 (k0_pay11 kp ku) k0_pay13 q0 q1 a0 b0) (k0_pay18 (k0_pay16 (k0_pay5 i) k0_pay6 k0_pay7 (k0_pay11 kp ku) k0_pay13 q0 q1 a1) b1 (k0_pay17 (k0_pay5 i) k0_pay6 k0_pay7 (k0_pay11 kp ku) k0_pay13 q0 q1 a1)) (k0_pay19 (k0_pay5 i) k0_pay6 (k0_pay14 k0_pay7 (k0_pay11 kp ku) k0_pay13 q0 q1) a2 b2) (k0_pay20 (k0_pay5 i) k0_pay6 (k0_pay14 k0_pay7 (k0_pay11 kp ku) k0_pay13 q0 q1) a3) b3 (ix2 r l)
    = pairA (heads (k0_pay5 i) (k0_pay6 (F := Ideal)) (scores (dupLo (half0 (k0_pay9 (F := Ideal) kp ku))) q0 q1)
        (dupLo (half0 (k0_pay9 (F := Ideal) vp vu))) a0 b0 a1 b1 a2 b2 a3 b3) (ix2 r l) := rfl

end Cert.SwaKernel

end
-- ==== Proof.SwaKernel.lean ====
/-
  The windowed attention call: its final array, entry by entry of the argument arrays.
-/
module

public import proofs.«01_k».proof.Proof.SwaForms

@[expose] public section

set_option maxRecDepth 16384
set_option maxHeartbeats 2000000

noncomputable section

namespace Cert.SwaKernel

open Idealize.ShloMosaic Idealize.ShloMosaic.TcCoe Idealize.SL.Sem
open Cert.KernelIdeal Cert.KernelIdeal.Gen Cert.SwaRows

theorem idx : ∀ t : Fin cfg0.N, win0_0.index t = ![0] ∧ win0_1.index t = ![0] ∧ win0_2.index t = ![t.val, 0]
    ∧ win0_3.index t = ![t.val, 0] ∧ win0_4.index t = ![t.val - 1, 0] ∧ win0_5.index t = ![t.val, 0] ∧ win0_6.index t = ![t.val - 1, 0]
    ∧ win0_7.index t = ![t.val, 0] :=
  (by decide +kernel : ∀ t : Fin grid0.N, _)

/-- Row `q` of block `n`. -/
def rowOf (n q : Fin 128) : Fin 16384 := ⟨n.val * 128 + q.val, by omega⟩

/-- Row `q` of block `n`, column `d` of the result, from the argument arrays: slopes, sinks, queries, keys, values. -/
def entryAt (slopes sinks : FVec Ideal S16 .f32) (x : FVec Ideal S16384x1024 .bf16) (k v : FVec Ideal S16384x256 .bf16) (n q : Fin 128) (d : Fin 1024) : EReal :=
  ∑ j, weightR (masked (seen n q) (distVal q)
      (fun j => ∑ e, x (ix2 (rowOf n q) (queryCol d e)) * k (ix2 (src n j) (keyCol d e))) (slopes (ix1 (headOf d)))) (sinks (ix1 (headOf d))) j
    * v (ix2 (src n j) (valueCol d))

/-- The whole result. -/
def OUT (slopes sinks : FVec Ideal S16 .f32) (x : FVec Ideal S16384x1024 .bf16) (k v : FVec Ideal S16384x256 .bf16) : FVec Ideal S16384x1024 .bf16 :=
  fun i => entryAt slopes sinks x k v (blockOf (i 0)) (placeOf (i 0)) (i 1)

variable (m : (ℓ : Loc nD τ sig) → Buf (Elt Ideal) ℓ)

theorem point (c : Dev nD) (t : Fin cfg0.N) (y : S128x1024.Idx) :
    outsAt0 m c t y = blockAt (grid0.coords t 0) (iblk m c 0 t) (iblk m c 1 t) (iblk m c 2 t) (iblk m c 4 t) (iblk m c 3 t) (iblk m c 6 t) (iblk m c 5 t) (y 0) (y 1) := by
  unfold outsAt0
  frame_out
  canon_tiles x h
  case piece0 =>
    obtain ⟨r, l, rfl⟩ : ∃ (r l : Fin 128), x = ix2 r l := ⟨x 0, x 1, eq_ix2 x⟩
    refine (form7 _ _ _ _ _ _ _ _ _ _ _ _ _ _ _ r l).trans ((storeB _ (iblk m c 0 t) (iblk m c 1 t) (iblk m c 2 t) _ _ _ _ _ _ 3 (twice3 _ _) (twice3 _ _) _ _ _ _ _ _ _ _ _ _
      (fun _ _ => ?_) ?_ ?_ ?_ ?_ r l).trans (congrArg₂ (blockAt _ _ _ _ _ _ _ _) ?_ ?_))
    all_goals (first | exact Fin.ext (by simpa using h0.symm) | exact Fin.ext (by simpa using h1.symm) | (pointwise; blk_ext; done) | skip)
  case piece1 =>
    obtain ⟨r, l, rfl⟩ : ∃ (r l : Fin 128), x = ix2 r l := ⟨x 0, x 1, eq_ix2 x⟩
    refine (form6 _ _ _ _ _ _ _ _ _ _ _ _ _ _ _ r l).trans ((storeA _ (iblk m c 0 t) (iblk m c 1 t) (iblk m c 2 t) _ _ _ _ _ _ 3 (twice3 _ _) (twice3 _ _) _ _ _ _ _ _ _ _ _ _
      (fun _ _ => ?_) ?_ ?_ ?_ ?_ r l).trans (congrArg₂ (blockAt _ _ _ _ _ _ _ _) ?_ ?_))
    all_goals (first | exact Fin.ext (by simpa using h0.symm) | exact Fin.ext (by simpa using h1.symm) | (pointwise; blk_ext; done) | skip)
  case piece2 =>
    obtain ⟨r, l, rfl⟩ : ∃ (r l : Fin 128), x = ix2 r l := ⟨x 0, x 1, eq_ix2 x⟩
    refine (form5 _ _ _ _ _ _ _ _ _ _ _ _ _ _ _ r l).trans ((storeB _ (iblk m c 0 t) (iblk m c 1 t) (iblk m c 2 t) _ _ _ _ _ _ 2 (twice2 _ _) (twice2 _ _) _ _ _ _ _ _ _ _ _ _
      (fun _ _ => ?_) ?_ ?_ ?_ ?_ r l).trans (congrArg₂ (blockAt _ _ _ _ _ _ _ _) ?_ ?_))
    all_goals (first | exact Fin.ext (by simpa using h0.symm) | exact Fin.ext (by simpa using h1.symm) | (pointwise; blk_ext; done) | skip)
  case piece3 =>
    obtain ⟨r, l, rfl⟩ : ∃ (r l : Fin 128), x = ix2 r l := ⟨x 0, x 1, eq_ix2 x⟩
    refine (form4 _ _ _ _ _ _ _ _ _ _ _ _ _ _ _ r l).trans ((storeA _ (iblk m c 0 t) (iblk m c 1 t) (iblk m c 2 t) _ _ _ _ _ _ 2 (twice2 _ _) (twice2 _ _) _ _ _ _ _ _ _ _ _ _
      (fun _ _ => ?_) ?_ ?_ ?_ ?_ r l).trans (congrArg₂ (blockAt _ _ _ _ _ _ _ _) ?_ ?_))
    all_goals (first | exact Fin.ext (by simpa using h0.symm) | exact Fin.ext (by simpa using h1.symm) | (pointwise; blk_ext; done) | skip)
  case piece4 =>
    obtain ⟨r, l, rfl⟩ : ∃ (r l : Fin 128), x = ix2 r l := ⟨x 0, x 1, eq_ix2 x⟩
    refine (form3 _ _ _ _ _ _ _ _ _ _ _ _ _ _ _ r l).trans ((storeB _ (iblk m c 0 t) (iblk m c 1 t) (iblk m c 2 t) _ _ _ _ _ _ 1 (twice1 _ _) (twice1 _ _) _ _ _ _ _ _ _ _ _ _
      (fun _ _ => ?_) ?_ ?_ ?_ ?_ r l).trans (congrArg₂ (blockAt _ _ _ _ _ _ _ _) ?_ ?_))
    all_goals (first | exact Fin.ext (by simpa using h0.symm) | exact Fin.ext (by simpa using h1.symm) | (pointwise; blk_ext; done) | skip)
  case piece5 =>
    obtain ⟨r, l, rfl⟩ : ∃ (r l : Fin 128), x = ix2 r l := ⟨x 0, x 1, eq_ix2 x⟩
    refine (form2 _ _ _ _ _ _ _ _ _ _ _ _ _ _ _ r l).trans ((storeA _ (iblk m c 0 t) (iblk m c 1 t) (iblk m c 2 t) _ _ _ _ _ _ 1 (twice1 _ _) (twice1 _ _) _ _ _ _ _ _ _ _ _ _
      (fun _ _ => ?_) ?_ ?_ ?_ ?_ r l).trans (congrArg₂ (blockAt _ _ _ _ _ _ _ _) ?_ ?_))
    all_goals (first | exact Fin.ext (by simpa using h0.symm) | exact Fin.ext (by simpa using h1.symm) | (pointwise; blk_ext; done) | skip)
  case piece6 =>
    obtain ⟨r, l, rfl⟩ : ∃ (r l : Fin 128), x = ix2 r l := ⟨x 0, x 1, eq_ix2 x⟩
    refine (form1 _ _ _ _ _ _ _ _ _ _ _ _ _ _ _ r l).trans ((storeB _ (iblk m c 0 t) (iblk m c 1 t) (iblk m c 2 t) _ _ _ _ _ _ 0 (twice0 _ _) (twice0 _ _) _ _ _ _ _ _ _ _ _ _
      (fun _ _ => ?_) ?_ ?_ ?_ ?_ r l).trans (congrArg₂ (blockAt _ _ _ _ _ _ _ _) ?_ ?_))
    all_goals (first | exact Fin.ext (by simpa using h0.symm) | exact Fin.ext (by simpa using h1.symm) | (pointwise; blk_ext; done) | skip)
  case piece7 =>
    obtain ⟨r, l, rfl⟩ : ∃ (r l : Fin 128), x = ix2 r l := ⟨x 0, x 1, eq_ix2 x⟩
    refine (form0 _ _ _ _ _ _ _ _ _ _ _ _ _ _ _ r l).trans ((storeA _ (iblk m c 0 t) (iblk m c 1 t) (iblk m c 2 t) _ _ _ _ _ _ 0 (twice0 _ _) (twice0 _ _) _ _ _ _ _ _ _ _ _ _
      (fun _ _ => ?_) ?_ ?_ ?_ ?_ r l).trans (congrArg₂ (blockAt _ _ _ _ _ _ _ _) ?_ ?_))
    all_goals (first | exact Fin.ext (by simpa using h0.symm) | exact Fin.ext (by simpa using h1.symm) | (pointwise; blk_ext; done) | skip)

theorem coord : ∀ t : Fin cfg0.N, (grid0.coords t 0 : ℕ) = t.val := (by decide +kernel : ∀ t : Fin grid0.N, _)

theorem final (c : Dev nD) : (dats m 0 c).arrAt 7 cfg0.N
    = OUT (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, d, rfl⟩ : ∃ (r : Fin 128) (d : Fin 1024), y = ix2 r d := ⟨y 0, y 1, eq_ix2 y⟩
  refine (point m c t _).trans ?_
  have ht : t.val < 128 := lt_of_lt_of_eq t.isLt N_0
  have hc : grid0.coords t 0 = (⟨t.val, ht⟩ : Fin 128) := Fin.ext (coord t)
  have he : (win0_7.blk t).view.emb (ix2 r d) = ix2 (⟨t.val * 128 + r.val, by omega⟩ : Fin 16384) d :=
    (eq_ix2 _).trans (congrArg₂ ix2 (Fin.ext (by blk_simp [idx t])) (Fin.ext (by blk_simp [idx t])))
  rw [hc]
  refine Eq.trans ?_ (congrArg (OUT _ _ _ _ _) he).symm
  show blockAt (⟨t.val, ht⟩ : Fin 128) _ _ _ _ _ _ _ r d = _
  have hn : blockOf ⟨t.val * 128 + r.val, by omega⟩ = ⟨t.val, ht⟩ := Fin.ext (by simp only [blockOf]; omega)
  have hr : placeOf ⟨t.val * 128 + r.val, by omega⟩ = r := Fin.ext (by simp only [placeOf]; omega)
  have hx : ∀ e : Fin 1024, iblk m c 2 t (ix2 r e) = m ((c : Thread nD τ).loc main_arg2) (ix2 (rowOf ⟨t.val, ht⟩ r) e) := fun e => by
    blk_simp [iblk]; entry_read; blk_ext [idx t]; rfl
  have hk : ∀ (j e : Fin 256), pick (iblk m c 4 t) (iblk m c 3 t) j e = m ((c : Thread nD τ).loc main_arg3) (ix2 (src ⟨t.val, ht⟩ j) e) := fun j e => by
    unfold pick src; split
    · blk_simp [iblk]; entry_read; blk_ext [idx t]
    · blk_simp [iblk]; entry_read; blk_ext [idx t]
  have hv : ∀ (j e : Fin 256), pick (iblk m c 6 t) (iblk m c 5 t) j e = m ((c : Thread nD τ).loc main_arg4) (ix2 (src ⟨t.val, ht⟩ j) e) := fun j e => by
    unfold pick src; split
    · blk_simp [iblk]; entry_read; blk_ext [idx t]
    · blk_simp [iblk]; entry_read; blk_ext [idx t]
  have ha : ∀ h : Fin 16, iblk m c 0 t (ix1 h) = m ((c : Thread nD τ).loc main_arg0) (ix1 h) := fun h => by
    blk_simp [iblk]; entry_read; blk_ext [idx t]
  have hb : ∀ h : Fin 16, iblk m c 1 t (ix1 h) = m ((c : Thread nD τ).loc main_arg1) (ix1 h) := fun h => by
    blk_simp [iblk]; entry_read; blk_ext [idx t]
  show _ = entryAt _ _ _ _ _ (blockOf ⟨t.val * 128 + r.val, by omega⟩) (placeOf ⟨t.val * 128 + r.val, by omega⟩) d
  rw [hn, hr]
  unfold blockAt entryAt
  simp only [hx, hk, hv, ha, hb]

end Cert.SwaKernel

end
-- ==== Proof.SwaRef.lean ====
/-
  The windowed attention's reference, stage by stage at one entry.
-/
module

public import proofs.«01_k».proof.Proof.SwaRows
public import proofs.«01_k».proof.Proof.Gen.ReferenceIdeal.Read

@[expose] public section

set_option maxRecDepth 16384
set_option maxHeartbeats 1000000

noncomputable section

namespace Cert.SwaRef

open Idealize.ShloMosaic Idealize.ShloMosaic.TcCoe Idealize.SL.Sem
open Cert.ReferenceIdeal Cert.ReferenceIdeal.Gen Cert.ReferenceIdeal.Read Cert.SwaRows

variable (slopes sinks : FVec Ideal S16 .f32) (x : FVec Ideal S16384x1024 .bf16) (k v : FVec Ideal S16384x256 .bf16)

/-- Query `q` of block `n`, of head `p` of key head `g`. -/
theorem q_at (n q : Fin 128) (g p : Fin 4) (e : Fin 64) :
    val_main_v1 (F := Ideal) x (ix5 n q g p e) = x (ix2 (⟨n.val * 128 + q.val, by omega⟩ : Fin 16384) (⟨(g.val * 4 + p.val) * 64 + e.val, by omega⟩ : Fin 1024)) := by
  pointwise [val_main_v1, val_main_v0]
  exact congrArg x (congrArg₂ ix2 rfl (Fin.ext (by dsimp only; omega)))

theorem k_at (n : Fin 128) (j : Fin 256) (g : Fin 4) (e : Fin 64) (h : 128 ≤ n.val * 128 + j.val) :
    val_main_v12 (F := Ideal) k (ix4 n j g e) = k (ix2 (⟨n.val * 128 + j.val - 128, by omega⟩ : Fin 16384) (⟨g.val * 64 + e.val, by omega⟩ : Fin 256)) := by
  pointwise [val_main_v12, val_main_v11, val_main_v10, val_main_v5, val_main_v4, val_main_v3, val_main_v2]
  by_cases h1 : j.val < 128
  · rw [dif_pos h1, dif_pos ⟨h, by omega⟩]
  · rw [dif_neg h1, dif_pos ⟨by omega, by omega⟩]
    exact congrArg k (congrArg₂ ix2 (Fin.ext (by dsimp only; omega)) rfl)

theorem v_at (n : Fin 128) (j : Fin 256) (g : Fin 4) (e : Fin 64) (h : 128 ≤ n.val * 128 + j.val) :
    val_main_v15 (F := Ideal) v (ix4 n j g e) = v (ix2 (⟨n.val * 128 + j.val - 128, by omega⟩ : Fin 16384) (⟨g.val * 64 + e.val, by omega⟩ : Fin 256)) := by
  pointwise [val_main_v15, val_main_v14, val_main_v13, val_main_v9, val_main_v8, val_main_v7, val_main_v6]
  by_cases h1 : j.val < 128
  · rw [dif_pos h1, dif_pos ⟨h, by omega⟩]
  · rw [dif_neg h1, dif_pos ⟨by omega, by omega⟩]
    exact congrArg v (congrArg₂ ix2 (Fin.ext (by dsimp only; omega)) rfl)

/-- The reference's mask bit. -/
theorem bit_at (n q : Fin 128) (j : Fin 256) : val_main_v49 (F := Ideal) (ix3 n q j)
    = IntOp.andi (IntOp.andi (IntOp.cmpi .sge (distWord q j) 0#32) (IntOp.cmpi .slt (distWord q j) 128#32))
      (IntOp.cmpi .sge (IntOp.addi (IntOp.muli (IntOp.subi (BitVec.ofNat 32 n.val) 1#32) 128#32) (BitVec.ofNat 32 j.val)) 0#32) := by
  pointwise [val_main_v49, val_main_v48, val_main_v47, val_main_v46, val_main_v45, val_main_v44, val_main_c_6, val_main_v43, val_main_v42, val_main_v41, val_main_v40,
    val_main_v39, val_main_v38, val_main_c_5, val_main_v37, val_main_v36, val_main_c_4, val_main_v35, val_main_v34, val_main_v33, val_main_v32, val_main_v31, val_main_c_3,
    val_main_v30, val_main_v29, val_main_c_2, val_main_v28, val_main_v27, val_main_v26, val_main_v25, val_main_v24, val_main_v23, val_main_v22, val_main_c_1, val_main_v21, val_main_v20, distWord]

theorem score_at (n q : Fin 128) (g p : Fin 4) (j : Fin 256) : val_main_v58 (F := Ideal) slopes x k (ix5 n g p q j)
    = (∑ e, val_main_v1 (F := Ideal) x (ix5 n q g p e) * val_main_v12 (F := Ideal) k (ix4 n j g e)) * Ideal.ofBits .f32 0x3E000000#32
      - slopes (ix1 (⟨g.val * 4 + p.val, by omega⟩ : Fin 16)) * distVal q j := by
  pointwise [val_main_v58, val_main_v57, val_main_v56, val_main_v55, val_main_v54, val_main_v53, val_main_v52, val_main_v51, val_main_v50, val_main_v28, val_main_v27, val_main_v26, val_main_v25, val_main_v24,
    val_main_v23, val_main_v22, val_main_c_1, val_main_v21, val_main_v20, distWord, distVal, val_main_v19, val_main_v18, val_main_cst, val_main_v17, val_main_v16]
  exact congrArg₂ (· - ·) (congrArg₂ (· * ·) (Finset.sum_congr rfl fun _ _ => mul_comm _ _) rfl) rfl

/-- A head's masked scores at one query, as the reference computes them. -/
def zrow (n q : Fin 128) (g p : Fin 4) (j : Fin 256) : EReal := val_main_v60 (F := Ideal) slopes x k (ix5 n g p q j)

theorem z_at (n q : Fin 128) (g p : Fin 4) (j : Fin 256) : zrow slopes x k n q g p j
    = Scalar.select (val_main_v49 (F := Ideal) (ix3 n q j)) (val_main_v58 (F := Ideal) slopes x k (ix5 n g p q j)) (Ideal.ofBits .f32 0xFF800000#32) := by
  unfold zrow
  pointwise [val_main_v60, val_main_call2_v2, val_main_call2_v1, val_main_call2_v0, val_main_cst_7, val_main_v59]
  rfl

/-- The largest entry along the last axis. -/
theorem max_at (z : FVec Ideal S128x4x4x128x256 .f32) (n : Fin 128) (g p : Fin 4) (q : Fin 128) :
    Host.reduce FloatOps.maximumf z (constant S_ .f32 0xFF800000#32) reducesTo_S128x4x4x128x256_S128x4x4x128_d4 h_S_ (ix4 n g p q)
      = Finset.univ.fold max (Ideal.ofBits .f32 0xFF800000#32) (fun j => z (ix5 n g p q j)) := by
  pointwise

theorem reduced_at (n q : Fin 128) (g p : Fin 4) : val_main_v62 (F := Ideal) slopes x k (ix4 n g p q)
    = Finset.univ.fold max (Ideal.ofBits .f32 0xFF800000#32) (zrow slopes x k n q g p) :=
  max_at (val_main_v60 (F := Ideal) slopes x k) n g p q

theorem kept_at (n q : Fin 128) (g p : Fin 4) : val_main_v63 (F := Ideal) slopes x k (ix5 n g p q 0) = val_main_v62 (F := Ideal) slopes x k (ix4 n g p q) := by
  unfold val_main_v63
  generalize val_main_v62 (F := Ideal) slopes x k = y
  pointwise

theorem sink_at (n q : Fin 128) (g p : Fin 4) : val_main_v64 (F := Ideal) sinks (ix5 n g p q 0) = sinks (ix1 (⟨g.val * 4 + p.val, by omega⟩ : Fin 16)) := by
  pointwise [val_main_v64, val_main_v61]

theorem larger (y z : FVec Ideal S128x4x4x128x1 .f32) (i : S128x4x4x128x1.Idx) (a b : EReal) (ha : y i = a) (hb : z i = b) :
    maximumf y z i = max a b := by
  subst ha hb; rfl

theorem top_at (n q : Fin 128) (g p : Fin 4) : val_main_v65 (F := Ideal) slopes sinks x k (ix5 n g p q 0)
    = top (zrow slopes x k n q g p) (sinks (ix1 (⟨g.val * 4 + p.val, by omega⟩ : Fin 16))) := by
  unfold val_main_v65 top
  exact larger _ _ _ _ _ ((kept_at slopes x k n q g p).trans (reduced_at slopes x k n q g p)) (sink_at sinks n q g p)

theorem exp_at (n q : Fin 128) (g p : Fin 4) (j : Fin 256) : val_main_v68 (F := Ideal) slopes sinks x k (ix5 n g p q j)
    = Ideal.exp (zrow slopes x k n q g p j - top (zrow slopes x k n q g p) (sinks (ix1 (⟨g.val * 4 + p.val, by omega⟩ : Fin 16)))) := by
  rw [← top_at]
  pointwise [val_main_v68, val_main_v67, val_main_v66, zrow]

theorem den_at (n q : Fin 128) (g p : Fin 4) : val_main_v74 (F := Ideal) slopes sinks x k (ix5 n g p q 0)
    = den (zrow slopes x k n q g p) (sinks (ix1 (⟨g.val * 4 + p.val, by omega⟩ : Fin 16))) := by
  unfold den
  rw [← top_at]
  simp only [← exp_at, top_at]
  pointwise [val_main_v74, val_main_v73, val_main_v72, val_main_v71, val_main_v70, val_main_v69, val_main_cst_9, val_main_v61, top_at]

theorem weight_at (n q : Fin 128) (g p : Fin 4) (j : Fin 256) : val_main_v76 (F := Ideal) slopes sinks x k (ix5 n g p q j)
    = weight (zrow slopes x k n q g p) (sinks (ix1 (⟨g.val * 4 + p.val, by omega⟩ : Fin 16))) j := by
  unfold weight
  rw [← den_at, ← exp_at]
  pointwise [val_main_v76, val_main_v75]

theorem out_at (n q : Fin 128) (g p : Fin 4) (e : Fin 64) : val_main_v80 (F := Ideal) slopes sinks x k v
      (ix2 (⟨n.val * 128 + q.val, by omega⟩ : Fin 16384) (⟨(g.val * 4 + p.val) * 64 + e.val, by omega⟩ : Fin 1024))
    = ∑ j, weight (zrow slopes x k n q g p) (sinks (ix1 (⟨g.val * 4 + p.val, by omega⟩ : Fin 16))) j * val_main_v15 (F := Ideal) v (ix4 n j g e) := by
  simp only [← weight_at]
  pointwise [val_main_v80, val_main_v79, val_main_v78, val_main_v77]
  exact Finset.sum_congr rfl fun _ _ => mul_comm _ _

end Cert.SwaRef

end
-- ==== Proof.SwaReal.lean ====
/-
  The softmax denominator is not zero: the scores are real or −∞, the sink is real, so the sink's own term is positive. The weights as
  quotients and as products with the reciprocal then agree, and a key that is not seen has weight zero.
-/
module

public import proofs.«01_k».proof.Proof.SwaRows
public import Idealize.ShloMosaic.Lib.ReduceAll

@[expose] public section

set_option maxRecDepth 16384

noncomputable section

namespace Cert.SwaReal

open Idealize.ShloMosaic Cert.SwaRows

/-- Neither infinite. -/
def IsReal (x : EReal) : Prop := ∃ r : ℝ, x = (r : EReal)

theorem real_mul {x y : EReal} : IsReal x → IsReal y → IsReal (x * y) := by
  rintro ⟨a, rfl⟩ ⟨b, rfl⟩
  exact ⟨a * b, (EReal.coe_mul a b).symm⟩

theorem real_add {x y : EReal} : IsReal x → IsReal y → IsReal (x + y) := by
  rintro ⟨a, rfl⟩ ⟨b, rfl⟩
  exact ⟨a + b, (EReal.coe_add a b).symm⟩

theorem real_sub {x y : EReal} : IsReal x → IsReal y → IsReal (x - y) := by
  rintro ⟨a, rfl⟩ ⟨b, rfl⟩
  exact ⟨a - b, (EReal.coe_sub a b).symm⟩

theorem real_sum {n : Nat} (f : Fin n → EReal) (h : ∀ i, IsReal (f i)) : IsReal (∑ i, f i) :=
  Finset.sum_induction f IsReal (fun _ _ => real_add) ⟨0, rfl⟩ fun i _ => h i

/-- The scores' scale, one eighth. -/
theorem real_scale : IsReal (Ideal.ofBits .f32 0x3E000000#32) := by
  refine ⟨1 / 8, ?_⟩
  simp [Ideal.ofBits, Ideal.ieee, -EReal.coe_mul]
  norm_num

theorem negInf : Ideal.ofBits .f32 0xFF800000#32 = ⊥ := by simp [Ideal.ofBits, Ideal.ieee]

theorem real_dist (q : Fin 128) (j : Fin 256) : IsReal (distVal q j) := ⟨((distWord q j).toInt : ℝ), rfl⟩

/-- A number whose absolute value is below infinity. -/
theorem real_of_abs (x : EReal) (h : BitVec.ofBool (decide (max x (-x) < Ideal.ofBits .f32 0x7F800000#32)) = 1#1) : IsReal x := by
  have ht : Ideal.ofBits .f32 0x7F800000#32 = ⊤ := by simp [Ideal.ofBits, Ideal.ieee]
  rw [ht] at h
  induction x using EReal.rec with
  | bot => simp at h
  | top => simp at h
  | coe r => exact ⟨r, rfl⟩

theorem exp_nonneg (x : EReal) : 0 ≤ Ideal.exp x := by
  induction x using EReal.rec with
  | bot => exact le_refl _
  | top => exact le_top
  | coe r => exact EReal.coe_nonneg.mpr (Real.exp_pos r).le

theorem exp_pos {x : EReal} (h : IsReal x) : 0 < Ideal.exp x := by
  obtain ⟨r, rfl⟩ := h
  exact EReal.coe_pos.mpr (Real.exp_pos r)

theorem top_real (z : Fin 256 → EReal) (b : EReal) (hz : ∀ j, z j ≠ ⊤) (hb : IsReal b) : IsReal (top z b) := by
  obtain ⟨r, rfl⟩ := hb
  have h1 : top z (r : EReal) ≠ ⊤ := by
    refine ne_of_lt (max_lt ?_ (EReal.coe_lt_top r))
    rw [Finset.fold_max_lt]
    exact ⟨by rw [negInf]; exact bot_lt_top, fun j _ => lt_top_iff_ne_top.mpr (hz j)⟩
  have h2 : top z (r : EReal) ≠ ⊥ := ne_of_gt (lt_of_lt_of_le (EReal.bot_lt_coe r) (le_max_right _ _))
  exact ⟨(top z (r : EReal)).toReal, (EReal.coe_toReal h1 h2).symm⟩

theorem den_ne (z : Fin 256 → EReal) (b : EReal) (hz : ∀ j, z j ≠ ⊤) (hb : IsReal b) : den z b ≠ 0 := by
  refine ne_of_gt (lt_of_lt_of_le (exp_pos (real_sub hb (top_real z b hz hb))) ?_)
  exact le_add_of_nonneg_left (Finset.sum_nonneg fun j _ => exp_nonneg _)

theorem weight_eq (z : Fin 256 → EReal) (b : EReal) (hz : ∀ j, z j ≠ ⊤) (hb : IsReal b) (j : Fin 256) : weight z b j = weightR z b j := by
  unfold weight weightR Ideal.div
  rw [if_neg (den_ne z b hz hb), if_neg (den_ne z b hz hb), one_mul]

theorem weight_zero (z : Fin 256 → EReal) (b : EReal) (j : Fin 256) (h : z j = ⊥) : weightR z b j = 0 := by
  unfold weightR
  rw [h, EReal.bot_sub]
  exact zero_mul _

/-- The two ways of leaving out the places before the sequence. -/
theorem late : ∀ n : Fin 128, ∀ j : Fin 256,
    IntOp.cmpi .sge (IntOp.addi (IntOp.muli (IntOp.subi (BitVec.ofNat 32 n.val) 1#32) 128#32) (BitVec.ofNat 32 j.val)) 0#32
      = IntOp.cmpi .sge (BitVec.ofNat 32 j.val) (Scalar.select (IntOp.cmpi .eq (BitVec.ofNat 32 n.val) 0#32) 128#32 0#32) := by
  decide +kernel

theorem early : ∀ n : Fin 128, ∀ j : Fin 256, ¬ 128 ≤ n.val * 128 + j.val →
    IntOp.cmpi .sge (BitVec.ofNat 32 j.val) (Scalar.select (IntOp.cmpi .eq (BitVec.ofNat 32 n.val) 0#32) 128#32 0#32) = 0#1 := by
  decide +kernel

theorem and_zero : ∀ b : BitVec 1, IntOp.andi b 0#1 = 0#1 := by decide

theorem seen_early (n q : Fin 128) (j : Fin 256) (h : ¬ 128 ≤ n.val * 128 + j.val) : seen n q j = 0#1 := by
  unfold seen
  rw [early n j h, and_zero]

theorem src_eq (n : Fin 128) (j : Fin 256) (h : 128 ≤ n.val * 128 + j.val) : src n j = ⟨n.val * 128 + j.val - 128, by omega⟩ := by
  unfold src
  split
  · exact Fin.ext (by dsimp only; omega)
  · exact Fin.ext (by dsimp only; omega)

theorem select_ne_top (b : BitVec 1) (x : EReal) (h : IsReal x) : Scalar.select b x ⊥ ≠ ⊤ := by
  obtain ⟨r, rfl⟩ := h
  unfold Scalar.select
  split
  · exact EReal.coe_ne_top r
  · exact bot_ne_top

end Cert.SwaReal

end
-- ==== Proof.SwaClose.lean ====
/-
  The windowed attention's two sides at one entry: the reference's scores are the masked scores, and its weighted sum is the kernel's.
-/
module

public import proofs.«01_k».proof.Proof.SwaKernel
public import proofs.«01_k».proof.Proof.SwaRef
public import proofs.«01_k».proof.Proof.SwaReal

@[expose] public section

set_option maxRecDepth 16384
set_option maxHeartbeats 1000000

noncomputable section

namespace Cert.SwaClose

open Idealize.ShloMosaic Idealize.ShloMosaic.TcCoe
open Cert.ReferenceIdeal Cert.ReferenceIdeal.Read Cert.SwaRows Cert.SwaReal Cert.SwaRef

variable (slopes sinks : FVec Ideal S16 .f32) (x : FVec Ideal S16384x1024 .bf16) (k v : FVec Ideal S16384x256 .bf16)

/-- A head's products of one query row with the keys of its two blocks. -/
def products (n q : Fin 128) (d : Fin 1024) (j : Fin 256) : EReal :=
  ∑ e, x (ix2 (Cert.SwaKernel.rowOf n q) (queryCol d e)) * k (ix2 (src n j) (keyCol d e))

/-- A column's key head, the query head within it, and its place in the head. -/
def gOf (d : Fin 1024) : Fin 4 := ⟨d.val / 256, by omega⟩
def pOf (d : Fin 1024) : Fin 4 := ⟨d.val / 64 % 4, by omega⟩
def eOf (d : Fin 1024) : Fin 64 := ⟨d.val % 64, by omega⟩

theorem head_eq (d : Fin 1024) : (⟨(gOf d).val * 4 + (pOf d).val, by omega⟩ : Fin 16) = headOf d :=
  Fin.ext (by simp only [gOf, pOf, headOf]; omega)

theorem col_eq (d : Fin 1024) : (⟨((gOf d).val * 4 + (pOf d).val) * 64 + (eOf d).val, by omega⟩ : Fin 1024) = d :=
  Fin.ext (by simp only [gOf, pOf, eOf]; omega)

theorem query_eq (d : Fin 1024) (e : Fin 64) : (⟨((gOf d).val * 4 + (pOf d).val) * 64 + e.val, by omega⟩ : Fin 1024) = queryCol d e :=
  Fin.ext (by simp only [gOf, pOf, queryCol]; omega)

theorem bit_seen (n q : Fin 128) (j : Fin 256) : val_main_v49 (F := Ideal) (ix3 n q j) = seen n q j := by
  rw [bit_at, late]
  rfl

theorem zrow_eq (n q : Fin 128) (d : Fin 1024) (j : Fin 256) : zrow slopes x k n q (gOf d) (pOf d) j
    = masked (seen n q) (distVal q) (products x k n q d) (slopes (ix1 (headOf d))) j := by
  rw [z_at, bit_seen, masked, negInf]
  by_cases h : 128 ≤ n.val * 128 + j.val
  · have hs : ∑ e, val_main_v1 (F := Ideal) x (ix5 n q (gOf d) (pOf d) e) * val_main_v12 (F := Ideal) k (ix4 n j (gOf d) e) = products x k n q d j :=
      Finset.sum_congr rfl fun e _ => by rw [q_at, k_at k n j (gOf d) e h, query_eq, ← src_eq n j h]; rfl
    rw [score_at, hs, head_eq]
  · rw [seen_early n q j h, select_zero, select_zero]

theorem products_real (hx : ∀ i, IsReal (x i)) (hk : ∀ i, IsReal (k i)) (n q : Fin 128) (d : Fin 1024) (j : Fin 256) : IsReal (products x k n q d j) :=
  real_sum _ fun _ => real_mul (hx _) (hk _)

theorem entry_eq (hs : ∀ i, IsReal (slopes i)) (hb : ∀ i, IsReal (sinks i)) (hx : ∀ i, IsReal (x i)) (hk : ∀ i, IsReal (k i))
    (n q : Fin 128) (d : Fin 1024) :
    val_main_v80 (F := Ideal) slopes sinks x k v (ix2 (Cert.SwaKernel.rowOf n q) d) = Cert.SwaKernel.entryAt slopes sinks x k v n q d := by
  have h0 := out_at slopes sinks x k v n q (gOf d) (pOf d) (eOf d)
  rw [col_eq, head_eq, funext (zrow_eq slopes x k n q d)] at h0
  refine h0.trans (Finset.sum_congr rfl fun j _ => ?_)
  have hz : ∀ j, masked (seen n q) (distVal q) (products x k n q d) (slopes (ix1 (headOf d))) j ≠ ⊤ := fun j =>
    select_ne_top _ _ (real_sub (real_mul (products_real x k hx hk n q d j) real_scale) (real_mul (hs _) (real_dist q j)))
  rw [weight_eq _ _ hz (hb _)]
  by_cases h : 128 ≤ n.val * 128 + j.val
  · rw [v_at v n j (gOf d) (eOf d) h, ← src_eq n j h]
    rfl
  · have hw : weightR (masked (seen n q) (distVal q) (products x k n q d) (slopes (ix1 (headOf d)))) (sinks (ix1 (headOf d))) j = 0 :=
      weight_zero _ _ _ (by rw [masked, seen_early n q j h, select_zero])
    exact (congrArg (· * _) hw).trans ((zero_mul _).trans ((congrArg (· * _) hw).trans (zero_mul _)).symm)

theorem row_split (t : Fin 16384) : Cert.SwaKernel.rowOf (blockOf t) (placeOf t) = t :=
  Fin.ext (by simp only [Cert.SwaKernel.rowOf, blockOf, placeOf]; omega)

theorem entry_at (hs : ∀ i, IsReal (slopes i)) (hb : ∀ i, IsReal (sinks i)) (hx : ∀ i, IsReal (x i)) (hk : ∀ i, IsReal (k i)) (t : Fin 16384) (d : Fin 1024) :
    val_main_v80 (F := Ideal) slopes sinks x k v (ix2 t d) = Cert.SwaKernel.entryAt slopes sinks x k v (blockOf t) (placeOf t) d := by
  have h := entry_eq slopes sinks x k v hs hb hx hk (blockOf t) (placeOf t) d
  rwa [row_split] at h

/-- The whole result. -/
theorem out_eq (hs : ∀ i, IsReal (slopes i)) (hb : ∀ i, IsReal (sinks i)) (hx : ∀ i, IsReal (x i)) (hk : ∀ i, IsReal (k i)) :
    val_main_v80 (F := Ideal) slopes sinks x k v = Cert.SwaKernel.OUT slopes sinks x k v := by
  funext i
  exact (congrArg _ (eq_ix2 i)).trans (entry_at slopes sinks x k v hs hb hx hk (i 0) (i 1))

end Cert.SwaClose

end
-- ==== Proof.SwaClaim.lean ====
/-
  The claims about the windowed attention: its reference's frame, the named mask, what the precondition says, and the equality of the two results.
-/
module

public import proofs.«01_k».proof.Defs
public import proofs.«01_k».proof.Proof.Gen.KernelIdeal.Value
public import proofs.«01_k».proof.Proof.Gen.ReferenceIdeal.Run
public import proofs.«01_k».proof.Proof.Gen.Pre_scores_finite
public import proofs.«01_k».proof.Proof.SwaClose
public import Idealize.ShloMosaic.Lib.Claim
public import Idealize.ShloMosaic.Adequacy
public import Idealize.ShloMosaic.Init

@[expose] public section

set_option maxRecDepth 16384

noncomputable section

namespace Cert.SwaClaim

open Idealize.ShloMosaic Idealize.SL.Sem Cert.SwaReal

/-- The reference runs, leaves its arguments alone and ends with no counter raised. -/
theorem frameR : Cert.quiescent_ReferenceIdeal := by
  intro m g _
  run_from Cert.ReferenceIdeal.Value.run m g
  · exact fun _ => ⟨trivial, trivial, trivial, trivial, trivial⟩
  · exact Idealize.ShloMosaic.sem_eq_zero_of_no_sems (by decide) r.2

theorem frameR_pre : Cert.quiescent_ReferenceIdeal_pre_scores_finite := fun m g _ => frameR m g trivial

/-- The kernel's mask constant is the one named −∞. -/
theorem mask : Cert.preserves_Kernel_KernelIdeal := IdealRules.named_const.statement Cert.KernelIdeal.κ "mask" .f32 0xF149F2CA#32 ⊥ rfl

/-- Under the precondition the slopes, the sinks, the queries and the keys are real. -/
theorem finite (slopes sinks : FVec Ideal Cert.Pre_scores_finite.S16 .f32) (x : FVec Ideal Cert.Pre_scores_finite.S16384x1024 .bf16)
    (k v : FVec Ideal Cert.Pre_scores_finite.S16384x256 .bf16)
    (h : Cert.Pre_scores_finite.fn (F := Ideal) slopes sinks x k v = (fun _ => 1#1)) :
    (∀ i, IsReal (slopes i)) ∧ (∀ i, IsReal (sinks i)) ∧ (∀ i, IsReal (x i)) ∧ (∀ i, IsReal (k i)) := by
  have h0 := congrFun h (fun a => a.elim0)
  obtain ⟨h1, hk⟩ := IntOp.andi_eq_one.1 h0
  obtain ⟨h2, hx⟩ := IntOp.andi_eq_one.1 h1
  obtain ⟨hs, hb⟩ := IntOp.andi_eq_one.1 h2
  exact ⟨fun i => real_of_abs _ (Host.reduce_andi_all _ _ _ _ _ hs i), fun i => real_of_abs _ (Host.reduce_andi_all _ _ _ _ _ hb i),
    fun i => real_of_abs _ (Host.reduce_andi_all _ _ _ _ _ hx i), fun i => real_of_abs _ (Host.reduce_andi_all _ _ _ _ _ hk i)⟩

/-- From equal arguments that satisfy the precondition both programs end with the same result. -/
theorem algebraic : Cert.algebraic_KernelIdeal_ReferenceIdeal_pre_scores_finite := by
  pair_intro
  · run_from Cert.KernelIdeal.Gen.run_main m g
  · run_from Cert.ReferenceIdeal.Value.run m' g'
    obtain ⟨h0, h1, h2, h3, h4⟩ := hagree c
    obtain ⟨hs, hb, hx, hk⟩ := finite _ _ _ _ _ (hpre c)
    refine (Cert.ReferenceIdeal.Read.val_main_v80_eq m' c).trans (Eq.trans ?_ (Cert.SwaKernel.final m c).symm)
    rw [h0, h1, h2, h3, h4]
    exact Cert.SwaClose.out_eq _ _ _ _ _ hs hb hx hk

end Cert.SwaClaim

end
-- ==== Proof.Rows.lean ====
/-
  The layer's row functions over the extended reals, free of any program: one row of a feed-forward block and the
  normalisation of a row. Both programs' values are stated by them.
-/
module

public import Idealize.ShloMosaic.Lib.Pointwise

@[expose] public section

noncomputable section

namespace Cert.Rows

open Idealize.ShloMosaic

/-- A row times a matrix, at column `j`. -/
def lin {a b : Nat} (h : Fin a → EReal) (w : Fin a → Fin b → EReal) (j : Fin b) : EReal := ∑ k, h k * w k j

/-- The row shifted and scaled: `x · (1 + sc) + sh`. -/
def shifted {a : Nat} (x sh sc : Fin a → EReal) (k : Fin a) : EReal := x k * (1 + sc k) + sh k

/-- The logistic function as both programs spell it. -/
def logis (x : EReal) : EReal := Ideal.div 1 (1 + Ideal.exp (-x))

/-- The sigmoid-weighted identity. -/
def siluOf (x : EReal) : EReal := x * logis x

/-- The log of the logistic function, in the form that does not overflow. -/
def logSig (x : EReal) : EReal := -(max (-x) 0 + Ideal.log1p (Ideal.exp (-(max x (-x)))))

/-- One hidden unit of the gated block: `silu (h·wg) · (h·wu)`. -/
def hid {a b : Nat} (h : Fin a → EReal) (wg wu : Fin a → Fin b → EReal) (n : Fin b) : EReal :=
  lin h wg n * logis (lin h wg n) * lin h wu n

/-- The mean of a row of 1024 entries. -/
def mean (z : Fin 1024 → EReal) : EReal := Ideal.div (∑ k, z k) (Ideal.ofBits .f32 0x44800000#32)

/-- A row normalised to mean zero and variance one, then scaled by `g` and moved by `b`. -/
def normRow (z g b : Fin 1024 → EReal) (d : Fin 1024) : EReal :=
  (z d - mean z) * Ideal.rsqrt (mean (fun k => (z k - mean z) * (z k - mean z)) + Ideal.ofBits .f32 0x3727C5AC#32) * g d + b d

/-- The row before the normalisation: the scaled input plus the gated branch `y`. -/
def resid (half : EReal) (x gt y : Fin 1024 → EReal) (d : Fin 1024) : EReal :=
  Ideal.ofBits .f32 0x3F9837F0#32 * x d + half * gt d * y d

/-- The mixer's row before the normalisation: the scaled input plus the gated branch `y`. -/
def residOne (x gt y : Fin 1024 → EReal) (d : Fin 1024) : EReal := Ideal.ofBits .f32 0x3F9837F0#32 * x d + gt d * y d

/-- The two branches, each projected and gated, added. -/
def merged (o a ga gb : Fin 1024 → EReal) (wa wb : Fin 1024 → Fin 1024 → EReal) (k : Fin 1024) : EReal :=
  ga k * lin o wa k + gb k * lin a wb k

/-- One row of the mixer's output. -/
def mixout (x gt o a ga gb g b : Fin 1024 → EReal) (wa wb wo : Fin 1024 → Fin 1024 → EReal) : Fin 1024 → EReal :=
  normRow (residOne x gt (lin (merged o a ga gb wa wb) wo)) g b

/-- One entry of the modulation vector: `silu c` times a matrix, plus a bias. -/
def modulation {n : Nat} (c : Fin 1024 → EReal) (w : Fin 1024 → Fin n → EReal) (b : Fin n → EReal) (j : Fin n) : EReal :=
  lin (fun k => c k * logis (c k)) w j + b j

/-- One row of the feed-forward block. -/
def ffn (x sh sc gt g b : Fin 1024 → EReal) (wg wu : Fin 1024 → Fin 2816 → EReal) (wd : Fin 2816 → Fin 1024 → EReal) :
    Fin 1024 → EReal :=
  normRow (resid (Ideal.ofBits .f32 0x3F000000#32) x gt (lin (hid (shifted x sh sc) wg wu) wd)) g b

/-- A product summed over 2816 hidden units is the sum over the first 1536 plus the sum over the last 1280. -/
theorem lin_split {b : Nat} (h : Fin 2816 → EReal) (w : Fin 2816 → Fin b → EReal) (j : Fin b) :
    lin h w j = lin (fun n : Fin 1536 => h ⟨n.val, by omega⟩) (fun n => w ⟨n.val, by omega⟩) j
      + lin (fun n : Fin 1280 => h ⟨1536 + n.val, by omega⟩) (fun n => w ⟨1536 + n.val, by omega⟩) j :=
  Fin.sum_univ_add (a := 1536) (b := 1280) (fun k => h k * w k j)

end Cert.Rows

end
-- ==== Proof.Ffn1Kernel.lean ====
/-
  The first feed-forward call: what one grid point stores, entry by entry, and the array the call leaves, as the row
  functions of its arguments.
-/
module

public import proofs.«01_k».proof.Proof.Rows
public import proofs.«01_k».proof.Proof.Gen.Kernel2Ideal.Value
public import Idealize.ShloMosaic.Lib.Claim
public import Idealize.ShloMosaic.Lib.Pipeline.ValueKit

@[expose] public section

set_option maxRecDepth 16384

noncomputable section

namespace Cert.Ffn1Kernel

open Idealize.ShloMosaic Idealize.ShloMosaic.TcCoe Idealize.SL.Sem
open Cert.Kernel2Ideal Cert.Kernel2Ideal.Gen Cert.Rows

/-- The scaled and shifted rows that feed both products. -/
theorem pay2_at (v0 : FVec Ideal S512x1024 .f32) (v1 v2 : FVec Ideal S1x1024 .f32) (r : Fin 512) (k : Fin 1024) :
    k0_pay2 (F := Ideal) v0 v1 v2 (ix2 r k) = shifted (fun k => v0 (ix2 r k)) (fun k => v1 (ix2 0 k)) (fun k => v2 (ix2 0 k)) k := by
  pointwise [k0_pay2, shifted]

/-- The first 1536 hidden units' contribution to the down projection. -/
theorem pay3_at (v0 : FVec Ideal S512x1024 .f32) (v1 v2 : FVec Ideal S1x1024 .f32) (wg wu : FVec Ideal S1024x1536 .bf16) (wd : FVec Ideal S1536x1024 .bf16) (r : Fin 512) (d : Fin 1024) :
    k0_pay3 (F := Ideal) v0 v1 v2 wg wu wd (ix2 r d) = lin (hid (shifted (fun k => v0 (ix2 r k)) (fun k => v1 (ix2 0 k)) (fun k => v2 (ix2 0 k))) (fun k n => wg (ix2 k n)) (fun k n => wu (ix2 k n))) (fun n d => wd (ix2 n d)) d := by
  pointwise [k0_pay3, pay2_at, lin, hid, logis, zero_sub]

/-- The gate product's last 1280 columns. -/
theorem pay4_at (v0 : FVec Ideal S512x1024 .f32) (v1 v2 : FVec Ideal S1x1024 .f32) (w : FVec Ideal S1024x1280 .bf16) (r : Fin 512) (n : Fin 1280) :
    k0_pay4 (F := Ideal) v0 v1 v2 w (ix2 r n) = lin (shifted (fun k => v0 (ix2 r k)) (fun k => v1 (ix2 0 k)) (fun k => v2 (ix2 0 k))) (fun k n => w (ix2 k n)) n := by
  pointwise [k0_pay4, pay2_at, lin]

/-- The row before the normalisation, from the shifted rows `h`, the first units' part `y` and the last units' gate `gt`. -/
def before (v0 : FVec Ideal S512x1024 .f32) (v3 : FVec Ideal S1x1024 .f32) (h : FVec Ideal S512x1024 .bf16) (y : FVec Ideal S512x1024 .f32)
    (gt : FVec Ideal S512x1280 .f32) (wu : FVec Ideal S1024x1280 .bf16) (wd : FVec Ideal S1280x1024 .bf16) (r : Fin 512) : Fin 1024 → EReal :=
  resid (Ideal.ofBits .f32 0x3F000000#32) (fun k => v0 (ix2 r k)) (fun k => v3 (ix2 0 k))
    (fun d => y (ix2 r d) + lin (fun n => gt (ix2 r n) * logis (gt (ix2 r n)) * lin (fun k => h (ix2 r k)) (fun k n => wu (ix2 k n)) n) (fun n d => wd (ix2 n d)) d)

/-- That row with its mean taken off. -/
theorem pay7_at (v0 : FVec Ideal S512x1024 .f32) (v3 : FVec Ideal S1x1024 .f32) (h : FVec Ideal S512x1024 .bf16) (y : FVec Ideal S512x1024 .f32)
    (gt : FVec Ideal S512x1280 .f32) (wu : FVec Ideal S1024x1280 .bf16) (wd : FVec Ideal S1280x1024 .bf16) (r : Fin 512) (d : Fin 1024) :
    k0_pay7 (F := Ideal) v0 v3 h y gt wu wd (ix2 r d) = before v0 v3 h y gt wu wd r d - mean (before v0 v3 h y gt wu wd r) := by
  pointwise [k0_pay7, before, lin, resid, mean, logis, zero_sub]

/-- The reciprocal square root of that row's variance. -/
theorem pay8_at (v0 : FVec Ideal S512x1024 .f32) (v3 : FVec Ideal S1x1024 .f32) (h : FVec Ideal S512x1024 .bf16) (y : FVec Ideal S512x1024 .f32)
    (gt : FVec Ideal S512x1280 .f32) (wu : FVec Ideal S1024x1280 .bf16) (wd : FVec Ideal S1280x1024 .bf16) (r : Fin 512) :
    k0_pay8 (F := Ideal) v0 v3 h y gt wu wd (ix2 r 0)
      = Ideal.rsqrt (mean (fun k => (before v0 v3 h y gt wu wd r k - mean (before v0 v3 h y gt wu wd r)) * (before v0 v3 h y gt wu wd r k - mean (before v0 v3 h y gt wu wd r)))
          + Ideal.ofBits .f32 0x3727C5AC#32) := by
  pointwise [k0_pay8, pay7_at, mean]

/-- What is stored: the normalised row. -/
theorem stored_at (v0 : FVec Ideal S512x1024 .f32) (v3 : FVec Ideal S1x1024 .f32) (h : FVec Ideal S512x1024 .bf16) (y : FVec Ideal S512x1024 .f32)
    (gt : FVec Ideal S512x1280 .f32) (wu : FVec Ideal S1024x1280 .bf16) (wd : FVec Ideal S1280x1024 .bf16) (g b : FVec Ideal S1x1024 .f32)
    (r : Fin 512) (d : Fin 1024) :
    k0_pay1 (F := Ideal) (k0_pay5 g) (k0_pay6 b) (k0_pay7 v0 v3 h y gt wu wd) (k0_pay8 v0 v3 h y gt wu wd) (ix2 r d)
      = normRow (before v0 v3 h y gt wu wd r) (fun k => g (ix2 0 k)) (fun k => b (ix2 0 k)) d := by
  pointwise [k0_pay1, k0_pay5, k0_pay6, pay7_at, pay8_at, normRow]

/-- One block's payload, from the whole staged blocks. -/
theorem block (x : FVec Ideal S512x1024 .f32) (ada : FVec Ideal S1x9216 .f32) (wg wu : FVec Ideal S1024x2816 .bf16)
    (wd : FVec Ideal S2816x1024 .bf16) (g b : FVec Ideal S1x1024 .f32) (r : Fin 512) (d : Fin 1024) :
    out0_7 (F := Ideal) x ada wg wu wd g b (ix2 r d)
      = ffn (fun k => x (ix2 r k)) (fun k => ada (ix2 0 ⟨0 + k.val, by omega⟩)) (fun k => ada (ix2 0 ⟨1024 + k.val, by omega⟩))
          (fun k => ada (ix2 0 ⟨2048 + k.val, by omega⟩)) (fun k => g (ix2 0 k)) (fun k => b (ix2 0 k))
          (fun k n => wg (ix2 k n)) (fun k n => wu (ix2 k n)) (fun n d => wd (ix2 n d)) d := by
  frame_out
  rw [stored_at]
  unfold before
  pointwise [pay2_at, pay3_at, pay4_at, k0_pay9, k0_pay10, k0_pay11]
  rw [ffn, funext (lin_split _ _)]
  simp only [hid, lin]

/-- The block indices of a grid point: the row block for the input and the result, the only block for the rest. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The result array, from the arguments. -/
def OUT (x : FVec Ideal S16384x1024 .f32) (ada : FVec Ideal S1x9216 .f32) (wg wu : FVec Ideal S1024x2816 .f32)
    (wd : FVec Ideal S2816x1024 .f32) (g b : FVec Ideal S1024 .f32) : FVec Ideal S16384x1024 .f32 := fun j =>
  ffn (fun k => x (ix2 (j 0) k)) (fun k => ada (ix2 0 ⟨0 + k.val, by omega⟩)) (fun k => ada (ix2 0 ⟨1024 + k.val, by omega⟩))
    (fun k => ada (ix2 0 ⟨2048 + k.val, by omega⟩)) (fun k => g (ix1 k)) (fun k => b (ix1 k))
    (fun k n => wg (ix2 k n)) (fun k n => wu (ix2 k n)) (fun n d => wd (ix2 n d)) (j 1)

variable (m : (ℓ : Loc nD τ sig) → Buf (Elt Ideal) ℓ)

/-- The array after the run. -/
theorem final (c : Dev nD) : (dats m 0 c).arrAt 7 cfg0.N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  obtain ⟨r, d, rfl⟩ : ∃ (r : Fin 512) (d : Fin 1024), y = ix2 r d := ⟨y 0, y 1, eq_ix2 y⟩
  refine (block _ _ _ _ _ _ _ r d).trans ?_
  unfold OUT
  congr 1
  all_goals (try (funext k))
  all_goals (try (funext n))
  all_goals (try (blk_simp [iblk]; entry_read; pointwise; blk_ext [idx t]; done))
  refine Fin.ext ?_
  blk_simp [idx t]

end Cert.Ffn1Kernel

end
-- ==== Proof.Ffn1Ref.lean ====
/-
  The first feed-forward block's reference, stage by stage at one entry.
-/
module

public import proofs.«01_k».proof.Proof.Rows
public import proofs.«01_k».proof.Proof.Gen.Reference2Ideal.Read

@[expose] public section

set_option maxRecDepth 16384

noncomputable section

namespace Cert.Ffn1Ref

open Idealize.ShloMosaic Idealize.ShloMosaic.TcCoe Idealize.SL.Sem
open Cert.Reference2Ideal Cert.Reference2Ideal.Gen Cert.Reference2Ideal.Read Cert.Rows

variable (x : FVec Ideal S16384x1024 .f32) (ada : FVec Ideal S1x9216 .f32) (wg wu : FVec Ideal S1024x2816 .f32)
  (wd : FVec Ideal S2816x1024 .f32) (g b : FVec Ideal S1024 .f32)

theorem h_at (r : Fin 16384) (k : Fin 1024) :
    val_main_v14 (F := Ideal) x ada (ix2 r k) = shifted (fun k => x (ix2 r k)) (fun k => ada (ix2 0 ⟨0 + k.val, by omega⟩)) (fun k => ada (ix2 0 ⟨1024 + k.val, by omega⟩)) k := by
  pointwise [val_main_v14, val_main_v13, val_main_v12, val_main_v11, val_main_v10, val_main_v9, val_main_v1, val_main_v0, val_main_cst, shifted]

theorem gate_at (r : Fin 16384) (n : Fin 2816) :
    val_main_v15 (F := Ideal) x ada wg (ix2 r n) = lin (fun k => val_main_v14 (F := Ideal) x ada (ix2 r k)) (fun k n => wg (ix2 k n)) n := by
  pointwise [val_main_v15, lin]

theorem up_at (r : Fin 16384) (n : Fin 2816) :
    val_main_v17 (F := Ideal) x ada wu (ix2 r n) = lin (fun k => val_main_v14 (F := Ideal) x ada (ix2 r k)) (fun k n => wu (ix2 k n)) n := by
  pointwise [val_main_v17, lin]

theorem act_at (r : Fin 16384) (n : Fin 2816) :
    val_main_v18 (F := Ideal) x ada wg wu (ix2 r n) = hid (fun k => val_main_v14 (F := Ideal) x ada (ix2 r k)) (fun k n => wg (ix2 k n)) (fun k n => wu (ix2 k n)) n := by
  pointwise [val_main_v18, val_main_v16, val_main_call0_v0, val_main_call0_v1, val_main_call0_v2, val_main_call0_v3, val_main_call0_v4, val_main_call0_v5, val_main_call0_cst, val_main_call0_cst_0, hid, logis, gate_at, up_at]

theorem z_at (r : Fin 16384) (d : Fin 1024) :
    val_main_v26 (F := Ideal) x ada wg wu wd (ix2 r d) = resid (Ideal.ofBits .f32 0x3F000000#32) (fun k => x (ix2 r k)) (fun k => ada (ix2 0 ⟨2048 + k.val, by omega⟩)) (lin (fun n => val_main_v18 (F := Ideal) x ada wg wu (ix2 r n)) (fun n d => wd (ix2 n d))) d := by
  pointwise [val_main_v26, val_main_v25, val_main_v24, val_main_v23, val_main_v22, val_main_v21, val_main_v20, val_main_v19, val_main_v2, val_main_cst_0, val_main_cst_1, resid, lin]

theorem mean_at (r : Fin 16384) (d : Fin 1) :
    val_main_v30 (F := Ideal) x ada wg wu wd (ix2 r d) = mean (fun k => val_main_v26 (F := Ideal) x ada wg wu wd (ix2 r k)) := by
  pointwise [val_main_v30, val_main_v29, val_main_v28, val_main_v27, val_main_cst_2, val_main_cst_3, mean]

theorem out_at (r : Fin 16384) (d : Fin 1024) :
    val_main_v50 (F := Ideal) x ada wg wu wd g b (ix2 r d) = normRow (fun k => val_main_v26 (F := Ideal) x ada wg wu wd (ix2 r k)) (fun k => g (ix1 k)) (fun k => b (ix1 k)) d := by
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_4, val_main_cst_5, val_main_cst_6, mean_at, normRow, mean]

/-- The reference's result at row `r`, column `d`. -/
theorem ref_at (r : Fin 16384) (d : Fin 1024) :
    val_main_v50 (F := Ideal) x ada wg wu wd g b (ix2 r d)
      = ffn (fun k => x (ix2 r k)) (fun k => ada (ix2 0 ⟨0 + k.val, by omega⟩)) (fun k => ada (ix2 0 ⟨1024 + k.val, by omega⟩))
          (fun k => ada (ix2 0 ⟨2048 + k.val, by omega⟩)) (fun k => g (ix1 k)) (fun k => b (ix1 k))
          (fun k n => wg (ix2 k n)) (fun k n => wu (ix2 k n)) (fun n d => wd (ix2 n d)) d := by
  rw [out_at, ffn]
  simp only [funext (z_at x ada wg wu wd r), funext (act_at x ada wg wu r), funext (h_at x ada r)]

end Cert.Ffn1Ref

end
-- ==== Proof.Ffn1Claim.lean ====
/-
  The claims about the first feed-forward block: its reference's frame, and the equality of the two results.
-/
module

public import proofs.«01_k».proof.Defs
public import proofs.«01_k».proof.Proof.Gen.Kernel2Ideal.Value
public import proofs.«01_k».proof.Proof.Gen.Reference2Ideal.Run
public import proofs.«01_k».proof.Proof.Ffn1Kernel
public import proofs.«01_k».proof.Proof.Ffn1Ref
public import Idealize.ShloMosaic.Lib.Claim
public import Idealize.ShloMosaic.Adequacy
public import Idealize.ShloMosaic.Init

@[expose] public section

set_option maxRecDepth 16384

noncomputable section

namespace Cert.Ffn1Claim

open Idealize.ShloMosaic Idealize.SL.Sem

/-- The reference runs, leaves its arguments alone and ends with no counter raised. -/
theorem frameR : Cert.quiescent_Reference2Ideal := by
  intro m g _
  run_from Cert.Reference2Ideal.Value.run m g
  · exact fun _ => ⟨trivial, trivial, trivial, trivial, trivial, trivial, trivial⟩
  · exact Idealize.ShloMosaic.sem_eq_zero_of_no_sems (by decide) r.2

/-- From equal arguments both programs end with the same result. -/
theorem algebraic : Cert.algebraic_Kernel2Ideal_Reference2Ideal := by
  pair_intro
  · run_from Cert.Kernel2Ideal.Gen.run_main m g
  · run_from Cert.Reference2Ideal.Value.run m' g'
    obtain ⟨h0, h1, h2, h3, h4, h5, h6⟩ := hagree c
    refine (Cert.Reference2Ideal.Read.val_main_v50_eq m' c).trans (Eq.trans ?_ (Cert.Ffn1Kernel.final m c).symm)
    rw [h0, h1, h2, h3, h4, h5, h6]
    funext j
    refine (congrArg _ (eq_ix2 j)).trans ?_
    exact Cert.Ffn1Ref.ref_at _ _ _ _ _ _ _ (j 0) (j 1)

end Cert.Ffn1Claim

end
-- ==== Proof.Ffn2Kernel.lean ====
/-
  The second feed-forward call, the same kernel at other columns of the modulation vector: what one grid point stores, entry by entry, and the array the call leaves, as the row
  functions of its arguments.
-/
module

public import proofs.«01_k».proof.Proof.Ffn1Kernel
public import proofs.«01_k».proof.Proof.Gen.Kernel3Ideal.Value
public import Idealize.ShloMosaic.Lib.Claim
public import Idealize.ShloMosaic.Lib.Pipeline.ValueKit

@[expose] public section

set_option maxRecDepth 16384

noncomputable section

namespace Cert.Ffn2Kernel

open Idealize.ShloMosaic Idealize.ShloMosaic.TcCoe Idealize.SL.Sem
open Cert.Kernel3Ideal Cert.Kernel3Ideal.Gen Cert.Rows

/-- The scaled and shifted rows, as in the first call. -/
theorem pay2_at (v0 : FVec Ideal S512x1024 .f32) (v1 v2 : FVec Ideal S1x1024 .f32) (r : Fin 512) (k : Fin 1024) :
    k0_pay2 (F := Ideal) v0 v1 v2 (ix2 r k) = shifted (fun k => v0 (ix2 r k)) (fun k => v1 (ix2 0 k)) (fun k => v2 (ix2 0 k)) k :=
  Ffn1Kernel.pay2_at v0 v1 v2 r k

/-- The first 1536 hidden units' contribution, as in the first call. -/
theorem pay3_at (v0 : FVec Ideal S512x1024 .f32) (v1 v2 : FVec Ideal S1x1024 .f32) (wg wu : FVec Ideal S1024x1536 .bf16) (wd : FVec Ideal S1536x1024 .bf16) (r : Fin 512) (d : Fin 1024) :
    k0_pay3 (F := Ideal) v0 v1 v2 wg wu wd (ix2 r d) = lin (hid (shifted (fun k => v0 (ix2 r k)) (fun k => v1 (ix2 0 k)) (fun k => v2 (ix2 0 k))) (fun k n => wg (ix2 k n)) (fun k n => wu (ix2 k n))) (fun n d => wd (ix2 n d)) d :=
  Ffn1Kernel.pay3_at v0 v1 v2 wg wu wd r d

/-- The gate product's last 1280 columns, as in the first call. -/
theorem pay4_at (v0 : FVec Ideal S512x1024 .f32) (v1 v2 : FVec Ideal S1x1024 .f32) (w : FVec Ideal S1024x1280 .bf16) (r : Fin 512) (n : Fin 1280) :
    k0_pay4 (F := Ideal) v0 v1 v2 w (ix2 r n) = lin (shifted (fun k => v0 (ix2 r k)) (fun k => v1 (ix2 0 k)) (fun k => v2 (ix2 0 k))) (fun k n => w (ix2 k n)) n :=
  Ffn1Kernel.pay4_at v0 v1 v2 w r n

/-- One block's payload, from the whole staged blocks. -/
theorem block (x : FVec Ideal S512x1024 .f32) (ada : FVec Ideal S1x9216 .f32) (wg wu : FVec Ideal S1024x2816 .bf16)
    (wd : FVec Ideal S2816x1024 .bf16) (g b : FVec Ideal S1x1024 .f32) (r : Fin 512) (d : Fin 1024) :
    out0_7 (F := Ideal) x ada wg wu wd g b (ix2 r d)
      = ffn (fun k => x (ix2 r k)) (fun k => ada (ix2 0 ⟨6144 + k.val, by omega⟩)) (fun k => ada (ix2 0 ⟨7168 + k.val, by omega⟩))
          (fun k => ada (ix2 0 ⟨8192 + k.val, by omega⟩)) (fun k => g (ix2 0 k)) (fun k => b (ix2 0 k))
          (fun k n => wg (ix2 k n)) (fun k n => wu (ix2 k n)) (fun n d => wd (ix2 n d)) d := by
  frame_out
  refine (Ffn1Kernel.stored_at _ _ _ _ _ _ _ _ _ r d).trans ?_
  unfold Ffn1Kernel.before
  simp only [k0_pay9, k0_pay10, k0_pay11]
  pointwise [pay2_at, pay3_at, pay4_at]
  rw [ffn, funext (lin_split _ _)]
  simp only [hid, lin]

/-- The block indices of a grid point: the row block for the input and the result, the only block for the rest. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The result array, from the arguments. -/
def OUT (x : FVec Ideal S16384x1024 .f32) (ada : FVec Ideal S1x9216 .f32) (wg wu : FVec Ideal S1024x2816 .f32)
    (wd : FVec Ideal S2816x1024 .f32) (g b : FVec Ideal S1024 .f32) : FVec Ideal S16384x1024 .f32 := fun j =>
  ffn (fun k => x (ix2 (j 0) k)) (fun k => ada (ix2 0 ⟨6144 + k.val, by omega⟩)) (fun k => ada (ix2 0 ⟨7168 + k.val, by omega⟩))
    (fun k => ada (ix2 0 ⟨8192 + k.val, by omega⟩)) (fun k => g (ix1 k)) (fun k => b (ix1 k))
    (fun k n => wg (ix2 k n)) (fun k n => wu (ix2 k n)) (fun n d => wd (ix2 n d)) (j 1)

variable (m : (ℓ : Loc nD τ sig) → Buf (Elt Ideal) ℓ)

/-- The array after the run. -/
theorem final (c : Dev nD) : (dats m 0 c).arrAt 7 cfg0.N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  obtain ⟨r, d, rfl⟩ : ∃ (r : Fin 512) (d : Fin 1024), y = ix2 r d := ⟨y 0, y 1, eq_ix2 y⟩
  refine (block _ _ _ _ _ _ _ r d).trans ?_
  unfold OUT
  congr 1
  all_goals (try (funext k))
  all_goals (try (funext n))
  all_goals (try (blk_simp [iblk]; entry_read; pointwise; blk_ext [idx t]; done))
  refine Fin.ext ?_
  blk_simp [idx t]

end Cert.Ffn2Kernel

end
-- ==== Proof.Ffn2Ref.lean ====
/-
  The second feed-forward block's reference, stage by stage at one entry.
-/
module

public import proofs.«01_k».proof.Proof.Rows
public import proofs.«01_k».proof.Proof.Gen.Reference3Ideal.Read

@[expose] public section

set_option maxRecDepth 16384

noncomputable section

namespace Cert.Ffn2Ref

open Idealize.ShloMosaic Idealize.ShloMosaic.TcCoe Idealize.SL.Sem
open Cert.Reference3Ideal Cert.Reference3Ideal.Gen Cert.Reference3Ideal.Read Cert.Rows

variable (x : FVec Ideal S16384x1024 .f32) (ada : FVec Ideal S1x9216 .f32) (wg wu : FVec Ideal S1024x2816 .f32)
  (wd : FVec Ideal S2816x1024 .f32) (g b : FVec Ideal S1024 .f32)

theorem h_at (r : Fin 16384) (k : Fin 1024) :
    val_main_v14 (F := Ideal) x ada (ix2 r k) = shifted (fun k => x (ix2 r k)) (fun k => ada (ix2 0 ⟨6144 + k.val, by omega⟩)) (fun k => ada (ix2 0 ⟨7168 + k.val, by omega⟩)) k := by
  pointwise [val_main_v14, val_main_v13, val_main_v12, val_main_v11, val_main_v10, val_main_v9, val_main_v7, val_main_v6, val_main_cst, shifted]

theorem gate_at (r : Fin 16384) (n : Fin 2816) :
    val_main_v15 (F := Ideal) x ada wg (ix2 r n) = lin (fun k => val_main_v14 (F := Ideal) x ada (ix2 r k)) (fun k n => wg (ix2 k n)) n := by
  pointwise [val_main_v15, lin]

theorem up_at (r : Fin 16384) (n : Fin 2816) :
    val_main_v17 (F := Ideal) x ada wu (ix2 r n) = lin (fun k => val_main_v14 (F := Ideal) x ada (ix2 r k)) (fun k n => wu (ix2 k n)) n := by
  pointwise [val_main_v17, lin]

theorem act_at (r : Fin 16384) (n : Fin 2816) :
    val_main_v18 (F := Ideal) x ada wg wu (ix2 r n) = hid (fun k => val_main_v14 (F := Ideal) x ada (ix2 r k)) (fun k n => wg (ix2 k n)) (fun k n => wu (ix2 k n)) n := by
  pointwise [val_main_v18, val_main_v16, val_main_call0_v0, val_main_call0_v1, val_main_call0_v2, val_main_call0_v3, val_main_call0_v4, val_main_call0_v5, val_main_call0_cst, val_main_call0_cst_0, hid, logis, gate_at, up_at]

theorem z_at (r : Fin 16384) (d : Fin 1024) :
    val_main_v26 (F := Ideal) x ada wg wu wd (ix2 r d) = resid (Ideal.ofBits .f32 0x3F000000#32) (fun k => x (ix2 r k)) (fun k => ada (ix2 0 ⟨8192 + k.val, by omega⟩)) (lin (fun n => val_main_v18 (F := Ideal) x ada wg wu (ix2 r n)) (fun n d => wd (ix2 n d))) d := by
  pointwise [val_main_v26, val_main_v25, val_main_v24, val_main_v23, val_main_v22, val_main_v21, val_main_v20, val_main_v19, val_main_v8, val_main_cst_0, val_main_cst_1, resid, lin]

theorem mean_at (r : Fin 16384) (d : Fin 1) :
    val_main_v30 (F := Ideal) x ada wg wu wd (ix2 r d) = mean (fun k => val_main_v26 (F := Ideal) x ada wg wu wd (ix2 r k)) := by
  pointwise [val_main_v30, val_main_v29, val_main_v28, val_main_v27, val_main_cst_2, val_main_cst_3, mean]

theorem out_at (r : Fin 16384) (d : Fin 1024) :
    val_main_v50 (F := Ideal) x ada wg wu wd g b (ix2 r d) = normRow (fun k => val_main_v26 (F := Ideal) x ada wg wu wd (ix2 r k)) (fun k => g (ix1 k)) (fun k => b (ix1 k)) d := by
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_4, val_main_cst_5, val_main_cst_6, mean_at, normRow, mean]

/-- The reference's result at row `r`, column `d`. -/
theorem ref_at (r : Fin 16384) (d : Fin 1024) :
    val_main_v50 (F := Ideal) x ada wg wu wd g b (ix2 r d)
      = ffn (fun k => x (ix2 r k)) (fun k => ada (ix2 0 ⟨6144 + k.val, by omega⟩)) (fun k => ada (ix2 0 ⟨7168 + k.val, by omega⟩))
          (fun k => ada (ix2 0 ⟨8192 + k.val, by omega⟩)) (fun k => g (ix1 k)) (fun k => b (ix1 k))
          (fun k n => wg (ix2 k n)) (fun k n => wu (ix2 k n)) (fun n d => wd (ix2 n d)) d := by
  rw [out_at, ffn]
  simp only [funext (z_at x ada wg wu wd r), funext (act_at x ada wg wu r), funext (h_at x ada r)]

end Cert.Ffn2Ref

end
-- ==== Proof.Ffn2Claim.lean ====
/-
  The claims about the second feed-forward block: its reference's frame, and the equality of the two results.
-/
module

public import proofs.«01_k».proof.Defs
public import proofs.«01_k».proof.Proof.Gen.Kernel3Ideal.Value
public import proofs.«01_k».proof.Proof.Gen.Reference3Ideal.Run
public import proofs.«01_k».proof.Proof.Ffn2Kernel
public import proofs.«01_k».proof.Proof.Ffn2Ref
public import Idealize.ShloMosaic.Lib.Claim
public import Idealize.ShloMosaic.Adequacy
public import Idealize.ShloMosaic.Init

@[expose] public section

set_option maxRecDepth 16384

noncomputable section

namespace Cert.Ffn2Claim

open Idealize.ShloMosaic Idealize.SL.Sem

/-- The reference runs, leaves its arguments alone and ends with no counter raised. -/
theorem frameR : Cert.quiescent_Reference3Ideal := by
  intro m g _
  run_from Cert.Reference3Ideal.Value.run m g
  · exact fun _ => ⟨trivial, trivial, trivial, trivial, trivial, trivial, trivial⟩
  · exact Idealize.ShloMosaic.sem_eq_zero_of_no_sems (by decide) r.2

/-- From equal arguments both programs end with the same result. -/
theorem algebraic : Cert.algebraic_Kernel3Ideal_Reference3Ideal := by
  pair_intro
  · run_from Cert.Kernel3Ideal.Gen.run_main m g
  · run_from Cert.Reference3Ideal.Value.run m' g'
    obtain ⟨h0, h1, h2, h3, h4, h5, h6⟩ := hagree c
    refine (Cert.Reference3Ideal.Read.val_main_v50_eq m' c).trans (Eq.trans ?_ (Cert.Ffn2Kernel.final m c).symm)
    rw [h0, h1, h2, h3, h4, h5, h6]
    funext j
    refine (congrArg _ (eq_ix2 j)).trans ?_
    exact Cert.Ffn2Ref.ref_at _ _ _ _ _ _ _ (j 0) (j 1)

end Cert.Ffn2Claim

end
-- ==== Proof.ProjBlocks.lean ====
/-
  The projection call: what one grid point stores in each of its ten results, entry by entry, and the arrays the call leaves.
-/
module

public import proofs.«01_k».proof.Proof.Rows
public import proofs.«01_k».proof.Proof.Gen.Kernel4Ideal.Value
public import Idealize.ShloMosaic.Lib.Claim
public import Idealize.ShloMosaic.Lib.Pipeline.ValueKit

@[expose] public section

set_option maxRecDepth 16384

noncomputable section

namespace Cert.ProjKernel

open Idealize.ShloMosaic Idealize.ShloMosaic.TcCoe Idealize.SL.Sem
open Cert.Kernel4Ideal Cert.Kernel4Ideal.Gen Cert.Rows

/-- The scaled and shifted rows that feed every product. -/
theorem pay2_at (v0 : FVec Ideal S512x1024 .f32) (sc sh : FVec Ideal S1x1024 .f32) (r : Fin 512) (k : Fin 1024) :
    k0_pay2 (F := Ideal) v0 sc sh (ix2 r k) = shifted (fun k => v0 (ix2 r k)) (fun k => sh (ix2 0 k)) (fun k => sc (ix2 0 k)) k := by
  pointwise [k0_pay2, shifted]

/-- The absolute value over the extended reals. -/
theorem abs_at (x : EReal) : FloatOps.absf (F := Ideal) (φ := .f32) x = max x (-x) := rfl

section Block

variable (x : FVec Ideal S512x1024 .f32) (ada : FVec Ideal S1x9216 .f32) (wq wk : FVec Ideal S1024x512 .bf16) (wv : FVec Ideal S1024x1024 .bf16)
  (wlr : FVec Ideal S1024x128 .bf16) (wup : FVec Ideal S128x512 .bf16) (bup : FVec Ideal S1x512 .f32) (wgo wsq : FVec Ideal S1024x1024 .bf16)
  (wsk wsv : FVec Ideal S1024x256 .bf16) (wga wgb : FVec Ideal S1024x1024 .bf16)

/-- A row of the staged block, scaled and shifted by the modulation's fourth and fifth parts. -/
def hblk (r : Fin 512) : Fin 1024 → EReal :=
  shifted (fun k => x (ix2 r k)) (fun k => ada (ix2 0 ⟨3072 + k.val, by omega⟩)) (fun k => ada (ix2 0 ⟨4096 + k.val, by omega⟩))

/-- One block of the scaled query projection. -/
theorem block_q (r : Fin 512) (j : Fin 512) : out0_14 (F := Ideal) x ada wq wk wv wlr wup bup wgo wsq wsk wsv wga wgb (ix2 r j)
    = lin (hblk x ada r) (fun k n => wq (ix2 k n)) j * Ideal.ofBits .f32 0x3DB504F3#32 := by
  frame_out
  pointwise [k0_pay3, pay2_at, lin, hblk, siluOf, logis, logSig, abs_at, zero_sub]

/-- One block of the key projection. -/
theorem block_k (r : Fin 512) (j : Fin 512) : out0_15 (F := Ideal) x ada wq wk wv wlr wup bup wgo wsq wsk wsv wga wgb (ix2 r j)
    = lin (hblk x ada r) (fun k n => wk (ix2 k n)) j := by
  frame_out
  pointwise [k0_pay4, pay2_at, lin, hblk, siluOf, logis, logSig, abs_at, zero_sub]

/-- One block of the value projection. -/
theorem block_v (r : Fin 512) (j : Fin 1024) : out0_16 (F := Ideal) x ada wq wk wv wlr wup bup wgo wsq wsk wsv wga wgb (ix2 r j)
    = lin (hblk x ada r) (fun k n => wv (ix2 k n)) j := by
  frame_out
  pointwise [k0_pay5, pay2_at, lin, hblk, siluOf, logis, logSig, abs_at, zero_sub]

/-- One block of the log of the forget gate. -/
theorem block_a (r : Fin 512) (j : Fin 512) : out0_17 (F := Ideal) x ada wq wk wv wlr wup bup wgo wsq wsk wsv wga wgb (ix2 r j)
    = Ideal.div (logSig (lin (lin (hblk x ada r) (fun k n => wlr (ix2 k n))) (fun n d => wup (ix2 n d)) j + bup (ix2 0 j))) (Ideal.ofBits .f32 0x41800000#32) := by
  frame_out
  pointwise [k0_pay7, k0_pay6, pay2_at, lin, hblk, siluOf, logis, logSig, abs_at, zero_sub]

/-- One block of the output gate. -/
theorem block_g (r : Fin 512) (j : Fin 1024) : out0_18 (F := Ideal) x ada wq wk wv wlr wup bup wgo wsq wsk wsv wga wgb (ix2 r j)
    = siluOf (lin (hblk x ada r) (fun k n => wgo (ix2 k n)) j) := by
  frame_out
  pointwise [k0_pay8, k0_pay16, pay2_at, lin, hblk, siluOf, logis, logSig, abs_at, zero_sub]

/-- One block of the windowed attention's queries. -/
theorem block_sq (r : Fin 512) (j : Fin 1024) : out0_19 (F := Ideal) x ada wq wk wv wlr wup bup wgo wsq wsk wsv wga wgb (ix2 r j)
    = lin (hblk x ada r) (fun k n => wsq (ix2 k n)) j := by
  frame_out
  pointwise [k0_pay10, k0_pay9, k0_pay16, pay2_at, lin, hblk, siluOf, logis, logSig, abs_at, zero_sub]

/-- One block of its keys. -/
theorem block_sk (r : Fin 512) (j : Fin 256) : out0_20 (F := Ideal) x ada wq wk wv wlr wup bup wgo wsq wsk wsv wga wgb (ix2 r j)
    = lin (hblk x ada r) (fun k n => wsk (ix2 k n)) j := by
  frame_out
  pointwise [k0_pay11, k0_pay16, pay2_at, lin, hblk, siluOf, logis, logSig, abs_at, zero_sub]

/-- One block of its values. -/
theorem block_sv (r : Fin 512) (j : Fin 256) : out0_21 (F := Ideal) x ada wq wk wv wlr wup bup wgo wsq wsk wsv wga wgb (ix2 r j)
    = lin (hblk x ada r) (fun k n => wsv (ix2 k n)) j := by
  frame_out
  pointwise [k0_pay12, k0_pay16, pay2_at, lin, hblk, siluOf, logis, logSig, abs_at, zero_sub]

/-- One block of the first branch's gate. -/
theorem block_ga (r : Fin 512) (j : Fin 1024) : out0_22 (F := Ideal) x ada wq wk wv wlr wup bup wgo wsq wsk wsv wga wgb (ix2 r j)
    = logis (lin (hblk x ada r) (fun k n => wga (ix2 k n)) j) := by
  frame_out
  pointwise [k0_pay13, k0_pay16, pay2_at, lin, hblk, siluOf, logis, logSig, abs_at, zero_sub]

/-- One block of the second branch's gate. -/
theorem block_gb (r : Fin 512) (j : Fin 1024) : out0_23 (F := Ideal) x ada wq wk wv wlr wup bup wgo wsq wsk wsv wga wgb (ix2 r j)
    = logis (lin (hblk x ada r) (fun k n => wgb (ix2 k n)) j) := by
  frame_out
  pointwise [k0_pay1, k0_pay14, k0_pay15, k0_pay16, pay2_at, lin, hblk, siluOf, logis, logSig, abs_at, zero_sub]

end Block

/-- The block indices of a grid point: the row block for the input and the results, the only block for the rest. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0]
    ∧ win0_22.index t = ![t.val, 0]
    ∧ win0_23.index t = ![t.val, 0] :=
  (by decide +kernel : ∀ t : Fin grid0.N, _)

section Results

variable (x : FVec Ideal S16384x1024 .f32) (ada : FVec Ideal S1x9216 .f32) (w : FVec Ideal S1024x6672 .f32) (wup : FVec Ideal S16x512 .f32)
  (bup : FVec Ideal S512 .f32)

/-- A row of the input, scaled and shifted by the modulation's fourth and fifth parts. -/
def hrow (r : Fin 16384) : Fin 1024 → EReal :=
  shifted (fun k => x (ix2 r k)) (fun k => ada (ix2 0 ⟨3072 + k.val, by omega⟩)) (fun k => ada (ix2 0 ⟨4096 + k.val, by omega⟩))

/-- The columns of the projection matrix from column `off` on. -/
def cols (off : Nat) {n : Nat} (h : off + n ≤ 6672) (k : Fin 1024) (j : Fin n) : EReal := w (ix2 k ⟨off + j.val, by omega⟩)

/-- An entry of the scaled query projection. -/
def at_q (r : Fin 16384) (j : Fin 512) : EReal :=
  lin (hrow x ada r) (cols w 0 (n := 512) (by decide)) j * Ideal.ofBits .f32 0x3DB504F3#32

/-- An entry of the key projection. -/
def at_k (r : Fin 16384) (j : Fin 512) : EReal :=
  lin (hrow x ada r) (cols w 512 (n := 512) (by decide)) j

/-- An entry of the value projection. -/
def at_v (r : Fin 16384) (j : Fin 1024) : EReal :=
  lin (hrow x ada r) (cols w 1024 (n := 1024) (by decide)) j

/-- An entry of the log of the forget gate. -/
def at_a (r : Fin 16384) (j : Fin 512) : EReal :=
  Ideal.div (logSig (lin (lin (hrow x ada r) (cols w 2048 (n := 16) (by decide))) (fun n d => wup (ix2 n d)) j + bup (ix1 j))) (Ideal.ofBits .f32 0x41800000#32)

/-- An entry of the output gate. -/
def at_g (r : Fin 16384) (j : Fin 1024) : EReal :=
  siluOf (lin (hrow x ada r) (cols w 2064 (n := 1024) (by decide)) j)

/-- An entry of the windowed attention's queries. -/
def at_sq (r : Fin 16384) (j : Fin 1024) : EReal :=
  lin (hrow x ada r) (cols w 3088 (n := 1024) (by decide)) j

/-- An entry of its keys. -/
def at_sk (r : Fin 16384) (j : Fin 256) : EReal :=
  lin (hrow x ada r) (cols w 4112 (n := 256) (by decide)) j

/-- An entry of its values. -/
def at_sv (r : Fin 16384) (j : Fin 256) : EReal :=
  lin (hrow x ada r) (cols w 4368 (n := 256) (by decide)) j

/-- An entry of the first branch's gate. -/
def at_ga (r : Fin 16384) (j : Fin 1024) : EReal :=
  logis (lin (hrow x ada r) (cols w 4624 (n := 1024) (by decide)) j)

/-- An entry of the second branch's gate. -/
def at_gb (r : Fin 16384) (j : Fin 1024) : EReal :=
  logis (lin (hrow x ada r) (cols w 5648 (n := 1024) (by decide)) j)

end Results

end Cert.ProjKernel

end
-- ==== Proof.ProjReads.lean ====
/-
  The projection call: what its staged input blocks hold, in terms of the argument arrays.
-/
module

public import proofs.«01_k».proof.Proof.ProjBlocks

@[expose] public section

set_option maxRecDepth 16384
set_option maxHeartbeats 1000000

noncomputable section

namespace Cert.ProjKernel

open Idealize.ShloMosaic Idealize.ShloMosaic.TcCoe Idealize.SL.Sem
open Cert.Kernel4Ideal Cert.Kernel4Ideal.Gen Cert.Rows

variable (m : (ℓ : Loc nD τ sig) → Buf (Elt Ideal) ℓ)

theorem rows_lt (t : Fin cfg0.N) (r : Fin 512) : t.val * 512 + r.val < 16384 := by
  have ht : t.val < 32 := lt_of_lt_of_eq t.isLt N_0
  omega

/-- Row `r` of grid point `t`. -/
def rowAt (t : Fin cfg0.N) (r : Fin 512) : Fin 16384 := ⟨t.val * 512 + r.val, rows_lt t r⟩

theorem read_x (c : Dev nD) (t : Fin cfg0.N) (r : Fin 512) (k : Fin 1024) :
    iblk m c 0 t (ix2 r k) = (m ((c : Thread nD τ).loc main_arg0)) (ix2 (rowAt t r) k) := by
  have hi := (idx t).1
  blk_simp [iblk]; entry_read; blk_ext [hi]; rfl

theorem read_ada (c : Dev nD) (t : Fin cfg0.N) (k : Fin 9216) :
    iblk m c 1 t (ix2 0 k) = (m ((c : Thread nD τ).loc main_arg1)) (ix2 0 k) := by
  have hi := (idx t).2.1
  blk_simp [iblk]; entry_read; blk_ext [hi]

theorem hblk_eq (c : Dev nD) (t : Fin cfg0.N) (r : Fin 512) : hblk (iblk m c 0 t) (iblk m c 1 t) r = hrow (m ((c : Thread nD τ).loc main_arg0)) (m ((c : Thread nD τ).loc main_arg1)) (rowAt t r) := by
  unfold hblk hrow
  simp only [read_x, read_ada]

theorem entry_q (c : Dev nD) : V m c main_v3 = (truncf (F := Ideal) .bf16 (extractStridedSlice S1024x512 ![0, 0]
    ((m ((c : Thread nD τ).loc main_arg2)) : FVec Ideal S1024x6672 .f32) slices_S1024x6672_S1024x512_0_0) bitsLt_bf16_f32 : FVec Ideal S1024x512 .bf16) := rfl

theorem read_q (c : Dev nD) (t : Fin cfg0.N) (k : Fin 1024) (n : Fin 512) :
    iblk m c 2 t (ix2 k n) = cols (m ((c : Thread nD τ).loc main_arg2)) 0 (n := 512) (by decide) k n := by
  have hi := (idx t).2.2.1
  unfold cols
  blk_simp [iblk]; rw [entry_q]; pointwise; blk_ext [hi]

theorem entry_k (c : Dev nD) : V m c main_v5 = (truncf (F := Ideal) .bf16 (extractStridedSlice S1024x512 ![0, 512]
    ((m ((c : Thread nD τ).loc main_arg2)) : FVec Ideal S1024x6672 .f32) slices_S1024x6672_S1024x512_0_512) bitsLt_bf16_f32 : FVec Ideal S1024x512 .bf16) := rfl

theorem read_k (c : Dev nD) (t : Fin cfg0.N) (k : Fin 1024) (n : Fin 512) :
    iblk m c 3 t (ix2 k n) = cols (m ((c : Thread nD τ).loc main_arg2)) 512 (n := 512) (by decide) k n := by
  have hi := (idx t).2.2.2.1
  unfold cols
  blk_simp [iblk]; rw [entry_k]; pointwise; blk_ext [hi]

theorem entry_v (c : Dev nD) : V m c main_v7 = (truncf (F := Ideal) .bf16 (extractStridedSlice S1024x1024 ![0, 1024]
    ((m ((c : Thread nD τ).loc main_arg2)) : FVec Ideal S1024x6672 .f32) slices_S1024x6672_S1024x1024_0_1024) bitsLt_bf16_f32 : FVec Ideal S1024x1024 .bf16) := rfl

theorem read_v (c : Dev nD) (t : Fin cfg0.N) (k : Fin 1024) (n : Fin 1024) :
    iblk m c 4 t (ix2 k n) = cols (m ((c : Thread nD τ).loc main_arg2)) 1024 (n := 1024) (by decide) k n := by
  have hi := (idx t).2.2.2.2.1
  unfold cols
  blk_simp [iblk]; rw [entry_v]; pointwise; blk_ext [hi]

theorem entry_g (c : Dev nD) : V m c main_v11 = (truncf (F := Ideal) .bf16 (extractStridedSlice S1024x1024 ![0, 2064]
    ((m ((c : Thread nD τ).loc main_arg2)) : FVec Ideal S1024x6672 .f32) slices_S1024x6672_S1024x1024_0_2064) bitsLt_bf16_f32 : FVec Ideal S1024x1024 .bf16) := rfl

theorem read_g (c : Dev nD) (t : Fin cfg0.N) (k : Fin 1024) (n : Fin 1024) :
    iblk m c 8 t (ix2 k n) = cols (m ((c : Thread nD τ).loc main_arg2)) 2064 (n := 1024) (by decide) k n := by
  have hi := (idx t).2.2.2.2.2.2.2.2.1
  unfold cols
  blk_simp [iblk]; rw [entry_g]; pointwise; blk_ext [hi]

theorem entry_sq (c : Dev nD) : V m c main_v13 = (truncf (F := Ideal) .bf16 (extractStridedSlice S1024x1024 ![0, 3088]
    ((m ((c : Thread nD τ).loc main_arg2)) : FVec Ideal S1024x6672 .f32) slices_S1024x6672_S1024x1024_0_3088) bitsLt_bf16_f32 : FVec Ideal S1024x1024 .bf16) := rfl

theorem read_sq (c : Dev nD) (t : Fin cfg0.N) (k : Fin 1024) (n : Fin 1024) :
    iblk m c 9 t (ix2 k n) = cols (m ((c : Thread nD τ).loc main_arg2)) 3088 (n := 1024) (by decide) k n := by
  have hi := (idx t).2.2.2.2.2.2.2.2.2.1
  unfold cols
  blk_simp [iblk]; rw [entry_sq]; pointwise; blk_ext [hi]

theorem entry_sk (c : Dev nD) : V m c main_v15 = (truncf (F := Ideal) .bf16 (extractStridedSlice S1024x256 ![0, 4112]
    ((m ((c : Thread nD τ).loc main_arg2)) : FVec Ideal S1024x6672 .f32) slices_S1024x6672_S1024x256_0_4112) bitsLt_bf16_f32 : FVec Ideal S1024x256 .bf16) := rfl

theorem read_sk (c : Dev nD) (t : Fin cfg0.N) (k : Fin 1024) (n : Fin 256) :
    iblk m c 10 t (ix2 k n) = cols (m ((c : Thread nD τ).loc main_arg2)) 4112 (n := 256) (by decide) k n := by
  have hi := (idx t).2.2.2.2.2.2.2.2.2.2.1
  unfold cols
  blk_simp [iblk]; rw [entry_sk]; pointwise; blk_ext [hi]

theorem entry_sv (c : Dev nD) : V m c main_v17 = (truncf (F := Ideal) .bf16 (extractStridedSlice S1024x256 ![0, 4368]
    ((m ((c : Thread nD τ).loc main_arg2)) : FVec Ideal S1024x6672 .f32) slices_S1024x6672_S1024x256_0_4368) bitsLt_bf16_f32 : FVec Ideal S1024x256 .bf16) := rfl

theorem read_sv (c : Dev nD) (t : Fin cfg0.N) (k : Fin 1024) (n : Fin 256) :
    iblk m c 11 t (ix2 k n) = cols (m ((c : Thread nD τ).loc main_arg2)) 4368 (n := 256) (by decide) k n := by
  have hi := (idx t).2.2.2.2.2.2.2.2.2.2.2.1
  unfold cols
  blk_simp [iblk]; rw [entry_sv]; pointwise; blk_ext [hi]

theorem entry_ga (c : Dev nD) : V m c main_v19 = (truncf (F := Ideal) .bf16 (extractStridedSlice S1024x1024 ![0, 4624]
    ((m ((c : Thread nD τ).loc main_arg2)) : FVec Ideal S1024x6672 .f32) slices_S1024x6672_S1024x1024_0_4624) bitsLt_bf16_f32 : FVec Ideal S1024x1024 .bf16) := rfl

theorem read_ga (c : Dev nD) (t : Fin cfg0.N) (k : Fin 1024) (n : Fin 1024) :
    iblk m c 12 t (ix2 k n) = cols (m ((c : Thread nD τ).loc main_arg2)) 4624 (n := 1024) (by decide) k n := by
  have hi := (idx t).2.2.2.2.2.2.2.2.2.2.2.2.1
  unfold cols
  blk_simp [iblk]; rw [entry_ga]; pointwise; blk_ext [hi]

theorem entry_gb (c : Dev nD) : V m c main_v21 = (truncf (F := Ideal) .bf16 (extractStridedSlice S1024x1024 ![0, 5648]
    ((m ((c : Thread nD τ).loc main_arg2)) : FVec Ideal S1024x6672 .f32) slices_S1024x6672_S1024x1024_0_5648) bitsLt_bf16_f32 : FVec Ideal S1024x1024 .bf16) := rfl

theorem read_gb (c : Dev nD) (t : Fin cfg0.N) (k : Fin 1024) (n : Fin 1024) :
    iblk m c 13 t (ix2 k n) = cols (m ((c : Thread nD τ).loc main_arg2)) 5648 (n := 1024) (by decide) k n := by
  have hi := (idx t).2.2.2.2.2.2.2.2.2.2.2.2.2.1
  unfold cols
  blk_simp [iblk]; rw [entry_gb]; pointwise; blk_ext [hi]

theorem entry_lr (c : Dev nD) : V m c main_v22 = (pad S1024x128 ![0, 0] ![0, 112] ![0, 0] (truncf (F := Ideal) .bf16 (extractStridedSlice S1024x16 ![0, 2048]
    ((m ((c : Thread nD τ).loc main_arg2)) : FVec Ideal S1024x6672 .f32) slices_S1024x6672_S1024x16_0_2048) bitsLt_bf16_f32 : FVec Ideal S1024x16 .bf16)
    (sitofp (F := Ideal) .bf16 (constantI S_ 32 0#32)) pads_S1024x16_S1024x128_000_01120 h_S_ : FVec Ideal S1024x128 .bf16) := rfl

/-- Padding on the right leaves the first columns, padding below the first rows. -/
theorem pad_right (w : FVec Ideal S1024x16 .bf16) (z : FVec Ideal S_ .bf16) (k : Fin 1024) (n : Fin 16) :
    pad S1024x128 ![0, 0] ![0, 112] ![0, 0] w z pads_S1024x16_S1024x128_000_01120 h_S_ (ix2 k (⟨n.val, by omega⟩ : Fin 128)) = w (ix2 k n) := by
  pointwise

theorem pad_below (w : FVec Ideal S16x512 .f32) (z : FVec Ideal S_ .f32) (n : Fin 16) (d : Fin 512) :
    pad S128x512 ![0, 0] ![112, 0] ![0, 0] w z pads_S16x512_S128x512_01120_000 h_S_ (ix2 (⟨n.val, by omega⟩ : Fin 128) d) = w (ix2 n d) := by
  pointwise

theorem pad_below_rest (w : FVec Ideal S16x512 .f32) (n : Fin 112) (d : Fin 512) :
    pad S128x512 ![0, 0] ![112, 0] ![0, 0] w (sitofp (F := Ideal) .f32 (constantI S_ 32 0#32)) pads_S16x512_S128x512_01120_000 h_S_ (ix2 (⟨16 + n.val, by omega⟩ : Fin 128) d)
      = (0 : EReal) := by
  pointwise
  show (((0#32 : BitVec 32).toInt : ℝ) : EReal) = 0
  simp

theorem block_lr (c : Dev nD) (t : Fin cfg0.N) (k : Fin 1024) (n : Fin 128) : iblk m c 5 t (ix2 k n) = V m c main_v22 (ix2 k n) := by
  have hi := (idx t).2.2.2.2.2.1
  blk_simp [iblk]; blk_ext [hi]

theorem block_up (c : Dev nD) (t : Fin cfg0.N) (n : Fin 128) (d : Fin 512) : iblk m c 6 t (ix2 n d) = V m c main_v1 (ix2 n d) := by
  have hi := (idx t).2.2.2.2.2.2.1
  blk_simp [iblk]; blk_ext [hi]

theorem read_lr (c : Dev nD) (t : Fin cfg0.N) (k : Fin 1024) (n : Fin 16) :
    iblk m c 5 t (ix2 k (⟨n.val, by omega⟩ : Fin 128)) = cols (m ((c : Thread nD τ).loc main_arg2)) 2048 (n := 16) (by decide) k n := by
  rw [block_lr, entry_lr, pad_right]
  unfold cols
  pointwise

theorem entry_up (c : Dev nD) : V m c main_v1 = (truncf (F := Ideal) .bf16 (pad S128x512 ![0, 0] ![112, 0] ![0, 0] ((m ((c : Thread nD τ).loc main_arg3)) : FVec Ideal S16x512 .f32)
    (sitofp (F := Ideal) .f32 (constantI S_ 32 0#32)) pads_S16x512_S128x512_01120_000 h_S_) bitsLt_bf16_f32 : FVec Ideal S128x512 .bf16) := rfl

theorem read_up (c : Dev nD) (t : Fin cfg0.N) (n : Fin 16) (d : Fin 512) :
    iblk m c 6 t (ix2 (⟨n.val, by omega⟩ : Fin 128) d) = (m ((c : Thread nD τ).loc main_arg3)) (ix2 n d) := by
  rw [block_up, entry_up]
  exact pad_below _ _ n d

theorem read_up_zero (c : Dev nD) (t : Fin cfg0.N) (n : Fin 112) (d : Fin 512) :
    iblk m c 6 t (ix2 (⟨16 + n.val, by omega⟩ : Fin 128) d) = (0 : EReal) := by
  rw [block_up, entry_up]
  exact pad_below_rest _ n d

theorem entry_b (c : Dev nD) : V m c main_v23 = (shapeCast S1x512 ((m ((c : Thread nD τ).loc main_arg4)) : FVec Ideal S512 .f32) shapeCasts_S512_S1x512 : FVec Ideal S1x512 .f32) := rfl

theorem read_b (c : Dev nD) (t : Fin cfg0.N) (d : Fin 512) : iblk m c 7 t (ix2 0 d) = (m ((c : Thread nD τ).loc main_arg4)) (ix1 d) := by
  have hi := (idx t).2.2.2.2.2.2.2.1
  blk_simp [iblk]; rw [entry_b]; pointwise; blk_ext [hi]

/-- The padded columns and rows of the two factors of the forget gate's product add nothing. -/
theorem lin_padded (h : Fin 1024 → EReal) (wl : Fin 1024 → Fin 128 → EReal) (wu : Fin 128 → Fin 512 → EReal)
    (wl' : Fin 1024 → Fin 16 → EReal) (wu' : Fin 16 → Fin 512 → EReal) (hl : ∀ k (n : Fin 16), wl k ⟨n.val, by omega⟩ = wl' k n)
    (hu : ∀ (n : Fin 16) d, wu ⟨n.val, by omega⟩ d = wu' n d) (hz : ∀ (n : Fin 112) d, wu ⟨16 + n.val, by omega⟩ d = 0) (d : Fin 512) :
    lin (lin h wl) wu d = lin (lin h wl') wu' d := by
  unfold lin
  refine (Fin.sum_univ_add (a := 16) (b := 112) _).trans ((congrArg₂ (· + ·) (Finset.sum_congr rfl fun n _ => ?_) (Finset.sum_eq_zero fun n _ => ?_)).trans (add_zero _))
  · exact congrArg₂ (· * ·) (Finset.sum_congr rfl fun k _ => congrArg _ (hl k n)) (hu n d)
  · exact (congrArg _ (hz n d)).trans (mul_zero _)

end Cert.ProjKernel

end
-- ==== Proof.ProjKernel.lean ====
/-
  The projection call: the ten arrays it leaves.
-/
module

public import proofs.«01_k».proof.Proof.ProjReads

@[expose] public section

set_option maxRecDepth 16384
set_option maxHeartbeats 1000000

noncomputable section

namespace Cert.ProjKernel

open Idealize.ShloMosaic Idealize.ShloMosaic.TcCoe Idealize.SL.Sem
open Cert.Kernel4Ideal Cert.Kernel4Ideal.Gen Cert.Rows

variable (m : (ℓ : Loc nD τ sig) → Buf (Elt Ideal) ℓ)

/-- The array of the scaled query projection after the run. -/
theorem final_q (c : Dev nD) : (dats m 0 c).arrAt 14 cfg0.N
    = (fun i => at_q (m ((c : Thread nD τ).loc main_arg0)) (m ((c : Thread nD τ).loc main_arg1)) (m ((c : Thread nD τ).loc main_arg2)) (i 0) (i 1) : FVec Ideal S16384x512 .f32) := by
  refine (dats m 0 c).arrAt_eq_of_covers 14 _ (by decide +kernel) fun t _ y => ?_
  blk_simp
  rw [after0_14]
  obtain ⟨r, d, rfl⟩ : ∃ (r : Fin 512) (d : Fin 512), y = ix2 r d := ⟨y 0, y 1, eq_ix2 y⟩
  refine (block_q _ _ _ _ _ _ _ _ _ _ _ _ _ _ r d).trans ?_
  have hi := (idx t).2.2.2.2.2.2.2.2.2.2.2.2.2.2.1
  have he : (win0_14.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x512.Idx => at_q (m ((c : Thread nD τ).loc main_arg0)) (m ((c : Thread nD τ).loc main_arg1)) (m ((c : Thread nD τ).loc main_arg2)) (i 0) (i 1)) he).symm
  show _ = at_q (m ((c : Thread nD τ).loc main_arg0)) (m ((c : Thread nD τ).loc main_arg1)) (m ((c : Thread nD τ).loc main_arg2)) (rowAt t r) d
  unfold at_q
  rw [hblk_eq]
  simp only [read_q]

/-- The array of the key projection after the run. -/
theorem final_k (c : Dev nD) : (dats m 0 c).arrAt 15 cfg0.N
    = (fun i => at_k (m ((c : Thread nD τ).loc main_arg0)) (m ((c : Thread nD τ).loc main_arg1)) (m ((c : Thread nD τ).loc main_arg2)) (i 0) (i 1) : FVec Ideal S16384x512 .f32) := by
  refine (dats m 0 c).arrAt_eq_of_covers 15 _ (by decide +kernel) fun t _ y => ?_
  blk_simp
  rw [after0_15]
  obtain ⟨r, d, rfl⟩ : ∃ (r : Fin 512) (d : Fin 512), y = ix2 r d := ⟨y 0, y 1, eq_ix2 y⟩
  refine (block_k _ _ _ _ _ _ _ _ _ _ _ _ _ _ r d).trans ?_
  have hi := (idx t).2.2.2.2.2.2.2.2.2.2.2.2.2.2.2.1
  have he : (win0_15.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x512.Idx => at_k (m ((c : Thread nD τ).loc main_arg0)) (m ((c : Thread nD τ).loc main_arg1)) (m ((c : Thread nD τ).loc main_arg2)) (i 0) (i 1)) he).symm
  show _ = at_k (m ((c : Thread nD τ).loc main_arg0)) (m ((c : Thread nD τ).loc main_arg1)) (m ((c : Thread nD τ).loc main_arg2)) (rowAt t r) d
  unfold at_k
  rw [hblk_eq]
  simp only [read_k]

/-- The array of the value projection after the run. -/
theorem final_v (c : Dev nD) : (dats m 0 c).arrAt 16 cfg0.N
    = (fun i => at_v (m ((c : Thread nD τ).loc main_arg0)) (m ((c : Thread nD τ).loc main_arg1)) (m ((c : Thread nD τ).loc main_arg2)) (i 0) (i 1) : FVec Ideal S16384x1024 .bf16) := by
  refine (dats m 0 c).arrAt_eq_of_covers 16 _ (by decide +kernel) fun t _ y => ?_
  blk_simp
  rw [after0_16]
  obtain ⟨r, d, rfl⟩ : ∃ (r : Fin 512) (d : Fin 1024), y = ix2 r d := ⟨y 0, y 1, eq_ix2 y⟩
  refine (block_v _ _ _ _ _ _ _ _ _ _ _ _ _ _ r d).trans ?_
  have hi := (idx t).2.2.2.2.2.2.2.2.2.2.2.2.2.2.2.2.1
  have he : (win0_16.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x1024.Idx => at_v (m ((c : Thread nD τ).loc main_arg0)) (m ((c : Thread nD τ).loc main_arg1)) (m ((c : Thread nD τ).loc main_arg2)) (i 0) (i 1)) he).symm
  show _ = at_v (m ((c : Thread nD τ).loc main_arg0)) (m ((c : Thread nD τ).loc main_arg1)) (m ((c : Thread nD τ).loc main_arg2)) (rowAt t r) d
  unfold at_v
  rw [hblk_eq]
  simp only [read_v]

/-- The array of the log of the forget gate after the run. -/
theorem final_a (c : Dev nD) : (dats m 0 c).arrAt 17 cfg0.N
    = (fun i => at_a (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) : FVec Ideal S16384x512 .f32) := by
  refine (dats m 0 c).arrAt_eq_of_covers 17 _ (by decide +kernel) fun t _ y => ?_
  blk_simp
  rw [after0_17]
  obtain ⟨r, d, rfl⟩ : ∃ (r : Fin 512) (d : Fin 512), y = ix2 r d := ⟨y 0, y 1, eq_ix2 y⟩
  refine (block_a _ _ _ _ _ _ _ _ _ _ _ _ _ _ r d).trans ?_
  have hi := (idx t).2.2.2.2.2.2.2.2.2.2.2.2.2.2.2.2.2.1
  have he : (win0_17.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x512.Idx => at_a (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)) he).symm
  show _ = at_a (m ((c : Thread nD τ).loc main_arg0)) (m ((c : Thread nD τ).loc main_arg1)) (m ((c : Thread nD τ).loc main_arg2)) (m ((c : Thread nD τ).loc main_arg3)) (m ((c : Thread nD τ).loc main_arg4)) (rowAt t r) d
  unfold at_a
  rw [hblk_eq, read_b]
  refine congrArg (fun z => Ideal.div (logSig (z + _)) _) ?_
  exact lin_padded _ _ _ _ _ (fun k n => read_lr m c t k n) (fun n d => read_up m c t n d) (fun n d => read_up_zero m c t n d) d

/-- The array of the output gate after the run. -/
theorem final_g (c : Dev nD) : (dats m 0 c).arrAt 18 cfg0.N
    = (fun i => at_g (m ((c : Thread nD τ).loc main_arg0)) (m ((c : Thread nD τ).loc main_arg1)) (m ((c : Thread nD τ).loc main_arg2)) (i 0) (i 1) : FVec Ideal S16384x1024 .f32) := by
  refine (dats m 0 c).arrAt_eq_of_covers 18 _ (by decide +kernel) fun t _ y => ?_
  blk_simp
  rw [after0_18]
  obtain ⟨r, d, rfl⟩ : ∃ (r : Fin 512) (d : Fin 1024), y = ix2 r d := ⟨y 0, y 1, eq_ix2 y⟩
  refine (block_g _ _ _ _ _ _ _ _ _ _ _ _ _ _ r d).trans ?_
  have hi := (idx t).2.2.2.2.2.2.2.2.2.2.2.2.2.2.2.2.2.2.1
  have he : (win0_18.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x1024.Idx => at_g (m ((c : Thread nD τ).loc main_arg0)) (m ((c : Thread nD τ).loc main_arg1)) (m ((c : Thread nD τ).loc main_arg2)) (i 0) (i 1)) he).symm
  show _ = at_g (m ((c : Thread nD τ).loc main_arg0)) (m ((c : Thread nD τ).loc main_arg1)) (m ((c : Thread nD τ).loc main_arg2)) (rowAt t r) d
  unfold at_g
  rw [hblk_eq]
  simp only [read_g]

/-- The array of the windowed attention's queries after the run. -/
theorem final_sq (c : Dev nD) : (dats m 0 c).arrAt 19 cfg0.N
    = (fun i => at_sq (m ((c : Thread nD τ).loc main_arg0)) (m ((c : Thread nD τ).loc main_arg1)) (m ((c : Thread nD τ).loc main_arg2)) (i 0) (i 1) : FVec Ideal S16384x1024 .bf16) := by
  refine (dats m 0 c).arrAt_eq_of_covers 19 _ (by decide +kernel) fun t _ y => ?_
  blk_simp
  rw [after0_19]
  obtain ⟨r, d, rfl⟩ : ∃ (r : Fin 512) (d : Fin 1024), y = ix2 r d := ⟨y 0, y 1, eq_ix2 y⟩
  refine (block_sq _ _ _ _ _ _ _ _ _ _ _ _ _ _ r d).trans ?_
  have hi := (idx t).2.2.2.2.2.2.2.2.2.2.2.2.2.2.2.2.2.2.2.1
  have he : (win0_19.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x1024.Idx => at_sq (m ((c : Thread nD τ).loc main_arg0)) (m ((c : Thread nD τ).loc main_arg1)) (m ((c : Thread nD τ).loc main_arg2)) (i 0) (i 1)) he).symm
  show _ = at_sq (m ((c : Thread nD τ).loc main_arg0)) (m ((c : Thread nD τ).loc main_arg1)) (m ((c : Thread nD τ).loc main_arg2)) (rowAt t r) d
  unfold at_sq
  rw [hblk_eq]
  simp only [read_sq]

/-- The array of its keys after the run. -/
theorem final_sk (c : Dev nD) : (dats m 0 c).arrAt 20 cfg0.N
    = (fun i => at_sk (m ((c : Thread nD τ).loc main_arg0)) (m ((c : Thread nD τ).loc main_arg1)) (m ((c : Thread nD τ).loc main_arg2)) (i 0) (i 1) : FVec Ideal S16384x256 .bf16) := by
  refine (dats m 0 c).arrAt_eq_of_covers 20 _ (by decide +kernel) fun t _ y => ?_
  blk_simp
  rw [after0_20]
  obtain ⟨r, d, rfl⟩ : ∃ (r : Fin 512) (d : Fin 256), y = ix2 r d := ⟨y 0, y 1, eq_ix2 y⟩
  refine (block_sk _ _ _ _ _ _ _ _ _ _ _ _ _ _ r d).trans ?_
  have hi := (idx t).2.2.2.2.2.2.2.2.2.2.2.2.2.2.2.2.2.2.2.2.1
  have he : (win0_20.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x256.Idx => at_sk (m ((c : Thread nD τ).loc main_arg0)) (m ((c : Thread nD τ).loc main_arg1)) (m ((c : Thread nD τ).loc main_arg2)) (i 0) (i 1)) he).symm
  show _ = at_sk (m ((c : Thread nD τ).loc main_arg0)) (m ((c : Thread nD τ).loc main_arg1)) (m ((c : Thread nD τ).loc main_arg2)) (rowAt t r) d
  unfold at_sk
  rw [hblk_eq]
  simp only [read_sk]

/-- The array of its values after the run. -/
theorem final_sv (c : Dev nD) : (dats m 0 c).arrAt 21 cfg0.N
    = (fun i => at_sv (m ((c : Thread nD τ).loc main_arg0)) (m ((c : Thread nD τ).loc main_arg1)) (m ((c : Thread nD τ).loc main_arg2)) (i 0) (i 1) : FVec Ideal S16384x256 .bf16) := by
  refine (dats m 0 c).arrAt_eq_of_covers 21 _ (by decide +kernel) fun t _ y => ?_
  blk_simp
  rw [after0_21]
  obtain ⟨r, d, rfl⟩ : ∃ (r : Fin 512) (d : Fin 256), y = ix2 r d := ⟨y 0, y 1, eq_ix2 y⟩
  refine (block_sv _ _ _ _ _ _ _ _ _ _ _ _ _ _ r d).trans ?_
  have hi := (idx t).2.2.2.2.2.2.2.2.2.2.2.2.2.2.2.2.2.2.2.2.2.1
  have he : (win0_21.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x256.Idx => at_sv (m ((c : Thread nD τ).loc main_arg0)) (m ((c : Thread nD τ).loc main_arg1)) (m ((c : Thread nD τ).loc main_arg2)) (i 0) (i 1)) he).symm
  show _ = at_sv (m ((c : Thread nD τ).loc main_arg0)) (m ((c : Thread nD τ).loc main_arg1)) (m ((c : Thread nD τ).loc main_arg2)) (rowAt t r) d
  unfold at_sv
  rw [hblk_eq]
  simp only [read_sv]

/-- The array of the first branch's gate after the run. -/
theorem final_ga (c : Dev nD) : (dats m 0 c).arrAt 22 cfg0.N
    = (fun i => at_ga (m ((c : Thread nD τ).loc main_arg0)) (m ((c : Thread nD τ).loc main_arg1)) (m ((c : Thread nD τ).loc main_arg2)) (i 0) (i 1) : FVec Ideal S16384x1024 .f32) := by
  refine (dats m 0 c).arrAt_eq_of_covers 22 _ (by decide +kernel) fun t _ y => ?_
  blk_simp
  rw [after0_22]
  obtain ⟨r, d, rfl⟩ : ∃ (r : Fin 512) (d : Fin 1024), y = ix2 r d := ⟨y 0, y 1, eq_ix2 y⟩
  refine (block_ga _ _ _ _ _ _ _ _ _ _ _ _ _ _ r d).trans ?_
  have hi := (idx t).2.2.2.2.2.2.2.2.2.2.2.2.2.2.2.2.2.2.2.2.2.2.1
  have he : (win0_22.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x1024.Idx => at_ga (m ((c : Thread nD τ).loc main_arg0)) (m ((c : Thread nD τ).loc main_arg1)) (m ((c : Thread nD τ).loc main_arg2)) (i 0) (i 1)) he).symm
  show _ = at_ga (m ((c : Thread nD τ).loc main_arg0)) (m ((c : Thread nD τ).loc main_arg1)) (m ((c : Thread nD τ).loc main_arg2)) (rowAt t r) d
  unfold at_ga
  rw [hblk_eq]
  simp only [read_ga]

/-- The array of the second branch's gate after the run. -/
theorem final_gb (c : Dev nD) : (dats m 0 c).arrAt 23 cfg0.N
    = (fun i => at_gb (m ((c : Thread nD τ).loc main_arg0)) (m ((c : Thread nD τ).loc main_arg1)) (m ((c : Thread nD τ).loc main_arg2)) (i 0) (i 1) : FVec Ideal S16384x1024 .f32) := by
  refine (dats m 0 c).arrAt_eq_of_covers 23 _ (by decide +kernel) fun t _ y => ?_
  blk_simp
  rw [after0_23]
  obtain ⟨r, d, rfl⟩ : ∃ (r : Fin 512) (d : Fin 1024), y = ix2 r d := ⟨y 0, y 1, eq_ix2 y⟩
  refine (block_gb _ _ _ _ _ _ _ _ _ _ _ _ _ _ r d).trans ?_
  have hi := (idx t).2.2.2.2.2.2.2.2.2.2.2.2.2.2.2.2.2.2.2.2.2.2.2
  have he : (win0_23.blk t).view.emb (ix2 r d) = ix2 (rowAt t r) d :=
    (eq_ix2 _).trans (congrArg₂ ix2 (Fin.ext (by unfold rowAt; blk_simp [hi])) (Fin.ext (by blk_simp [hi])))
  refine Eq.trans ?_ (congrArg (fun i : S16384x1024.Idx => at_gb (m ((c : Thread nD τ).loc main_arg0)) (m ((c : Thread nD τ).loc main_arg1)) (m ((c : Thread nD τ).loc main_arg2)) (i 0) (i 1)) he).symm
  show _ = at_gb (m ((c : Thread nD τ).loc main_arg0)) (m ((c : Thread nD τ).loc main_arg1)) (m ((c : Thread nD τ).loc main_arg2)) (rowAt t r) d
  unfold at_gb
  rw [hblk_eq]
  simp only [read_gb]

end Cert.ProjKernel

end
-- ==== Proof.ProjRef.lean ====
/-
  The projection's reference, result by result at one entry.
-/
module

public import proofs.«01_k».proof.Proof.ProjBlocks
public import proofs.«01_k».proof.Proof.Gen.Reference4Ideal.Read

@[expose] public section

set_option maxRecDepth 16384

noncomputable section

namespace Cert.ProjRef

open Idealize.ShloMosaic Idealize.ShloMosaic.TcCoe Idealize.SL.Sem
open Cert.Reference4Ideal Cert.Reference4Ideal.Gen Cert.Reference4Ideal.Read Cert.Rows Cert.ProjKernel

variable (x : FVec Ideal S16384x1024 .f32) (ada : FVec Ideal S1x9216 .f32) (w : FVec Ideal S1024x6672 .f32) (wup : FVec Ideal S16x512 .f32)
  (bup : FVec Ideal S512 .f32)

theorem h_at (r : Fin 16384) (k : Fin 1024) : val_main_v14 (F := Ideal) x ada (ix2 r k) = hrow x ada r k := by
  pointwise [val_main_v14, val_main_v13, val_main_v12, val_main_v11, val_main_v10, val_main_v9, val_main_v3, val_main_v4, val_main_cst, hrow, shifted]

theorem prod_at (r : Fin 16384) (n : Fin 6672) : val_main_v15 (F := Ideal) x ada w (ix2 r n) = lin (hrow x ada r) (fun k n => w (ix2 k n)) n := by
  pointwise [val_main_v15, lin, h_at]

theorem part_at (r : Fin 16384) (off n : Nat) (h : off + n ≤ 6672) (j : Fin n) :
    val_main_v15 (F := Ideal) x ada w (ix2 r ⟨off + j.val, by omega⟩) = lin (hrow x ada r) (cols w off h) j := prod_at x ada w r _

theorem v16_at (r : Fin 16384) (j : Fin 512) : val_main_v16 (F := Ideal) x ada w (ix2 r j) = lin (hrow x ada r) (cols w 0 (n := 512) (by decide)) j := by
  rw [← part_at]
  pointwise [val_main_v16]

theorem v17_at (r : Fin 16384) (j : Fin 512) : val_main_v17 (F := Ideal) x ada w (ix2 r j) = lin (hrow x ada r) (cols w 512 (n := 512) (by decide)) j := by
  rw [← part_at]
  pointwise [val_main_v17]

theorem v18_at (r : Fin 16384) (j : Fin 1024) : val_main_v18 (F := Ideal) x ada w (ix2 r j) = lin (hrow x ada r) (cols w 1024 (n := 1024) (by decide)) j := by
  rw [← part_at]
  pointwise [val_main_v18]

theorem v19_at (r : Fin 16384) (j : Fin 16) : val_main_v19 (F := Ideal) x ada w (ix2 r j) = lin (hrow x ada r) (cols w 2048 (n := 16) (by decide)) j := by
  rw [← part_at]
  pointwise [val_main_v19]

theorem v20_at (r : Fin 16384) (j : Fin 1024) : val_main_v20 (F := Ideal) x ada w (ix2 r j) = lin (hrow x ada r) (cols w 2064 (n := 1024) (by decide)) j := by
  rw [← part_at]
  pointwise [val_main_v20]

theorem v21_at (r : Fin 16384) (j : Fin 1024) : val_main_v21 (F := Ideal) x ada w (ix2 r j) = lin (hrow x ada r) (cols w 3088 (n := 1024) (by decide)) j := by
  rw [← part_at]
  pointwise [val_main_v21]

theorem v22_at (r : Fin 16384) (j : Fin 256) : val_main_v22 (F := Ideal) x ada w (ix2 r j) = lin (hrow x ada r) (cols w 4112 (n := 256) (by decide)) j := by
  rw [← part_at]
  pointwise [val_main_v22]

theorem v23_at (r : Fin 16384) (j : Fin 256) : val_main_v23 (F := Ideal) x ada w (ix2 r j) = lin (hrow x ada r) (cols w 4368 (n := 256) (by decide)) j := by
  rw [← part_at]
  pointwise [val_main_v23]

theorem v24_at (r : Fin 16384) (j : Fin 1024) : val_main_v24 (F := Ideal) x ada w (ix2 r j) = lin (hrow x ada r) (cols w 4624 (n := 1024) (by decide)) j := by
  rw [← part_at]
  pointwise [val_main_v24]

theorem v25_at (r : Fin 16384) (j : Fin 1024) : val_main_v25 (F := Ideal) x ada w (ix2 r j) = lin (hrow x ada r) (cols w 5648 (n := 1024) (by decide)) j := by
  rw [← part_at]
  pointwise [val_main_v25]

theorem ref_q (r : Fin 16384) (j : Fin 512) : val_main_v27 (F := Ideal) x ada w (ix2 r j) = at_q x ada w r j := by
  unfold at_q
  rw [← v16_at]
  pointwise [val_main_v27, val_main_v26, val_main_cst_0]

theorem ref_k (r : Fin 16384) (j : Fin 512) : val_main_v17 (F := Ideal) x ada w (ix2 r j) = at_k x ada w r j := v17_at x ada w r j

theorem ref_v (r : Fin 16384) (j : Fin 1024) : val_main_v35 (F := Ideal) x ada w (ix2 r j) = at_v x ada w r j := v18_at x ada w r j

theorem logit_at (r : Fin 16384) (j : Fin 512) : val_main_v31 (F := Ideal) x ada w wup bup (ix2 r j)
    = lin (lin (hrow x ada r) (cols w 2048 (n := 16) (by decide))) (fun n d => wup (ix2 n d)) j + bup (ix1 j) := by
  pointwise [val_main_v31, val_main_v30, val_main_v29, val_main_v28, lin, v19_at]

/-- Nothing differs from itself. -/
theorem une_self (z : EReal) : FloatOps.cmpf (F := Ideal) (φ := .f32) .une z z = 0#1 := by
  show BitVec.ofBool (decide (z ≠ z)) = 0#1
  simp

theorem logSig_at (z : EReal) : -(Scalar.select (FloatOps.cmpf (F := Ideal) (φ := .f32) .une (-z - 0) (-z - 0)) (-z + 0)
    (max (-z) 0 + Ideal.log1p (Ideal.exp (-(max (-z - 0) (-(-z - 0))))))) = logSig z := by
  rw [une_self, sub_zero, neg_neg, max_comm (-z) z]
  rfl

theorem ref_a (r : Fin 16384) (j : Fin 512) : val_main_v34 (F := Ideal) x ada w wup bup (ix2 r j) = at_a x ada w wup bup r j := by
  unfold at_a
  rw [← logit_at, ← logSig_at]
  pointwise [val_main_v34, val_main_v33, val_main_cst_1, val_main_v32, val_main_call0_v1, val_main_call0_v0, val_main_call0_call0_v1, val_main_call0_call0_v0, val_main_call0_call0_cst,
    val_main_call0_call0_v2, val_main_call0_call0_v3, val_main_call0_call0_v4, val_main_call0_call0_v5, val_main_call0_call0_v6, val_main_call0_call0_v7, val_main_call0_call0_v8,
    val_main_call0_call0_v9, val_main_call0_call0_v10, val_main_call0_call0_v11, abs_at]

theorem ref_g (r : Fin 16384) (j : Fin 1024) : val_main_v39 (F := Ideal) x ada w (ix2 r j) = at_g x ada w r j := by
  unfold at_g siluOf logis
  rw [← v20_at]
  pointwise [val_main_v39, val_main_call1_v0, val_main_call1_v1, val_main_call1_v2, val_main_call1_v3, val_main_call1_v4, val_main_call1_v5, val_main_call1_cst, val_main_call1_cst_0]

theorem ref_sq (r : Fin 16384) (j : Fin 1024) : val_main_v36 (F := Ideal) x ada w (ix2 r j) = at_sq x ada w r j := v21_at x ada w r j

theorem ref_sk (r : Fin 16384) (j : Fin 256) : val_main_v37 (F := Ideal) x ada w (ix2 r j) = at_sk x ada w r j := v22_at x ada w r j

theorem ref_sv (r : Fin 16384) (j : Fin 256) : val_main_v38 (F := Ideal) x ada w (ix2 r j) = at_sv x ada w r j := v23_at x ada w r j

theorem ref_ga (r : Fin 16384) (j : Fin 1024) : val_main_v45 (F := Ideal) x ada w (ix2 r j) = at_ga x ada w r j := by
  unfold at_ga logis
  rw [← v24_at]
  pointwise [val_main_v45, val_main_v44, val_main_cst_3, val_main_v43, val_main_v42, val_main_cst_2, val_main_v41, val_main_v40]

theorem ref_gb (r : Fin 16384) (j : Fin 1024) : val_main_v51 (F := Ideal) x ada w (ix2 r j) = at_gb x ada w r j := by
  unfold at_gb logis
  rw [← v25_at]
  pointwise [val_main_v51, val_main_v50, val_main_cst_5, val_main_v49, val_main_v48, val_main_cst_4, val_main_v47, val_main_v46]

end Cert.ProjRef

end
-- ==== Proof.ProjClaim.lean ====
/-
  The claims about the input projection: its reference's frame, and the equality of the two results.
-/
module

public import proofs.«01_k».proof.Defs
public import proofs.«01_k».proof.Proof.Gen.Kernel4Ideal.Value
public import proofs.«01_k».proof.Proof.Gen.Reference4Ideal.Run
public import proofs.«01_k».proof.Proof.ProjKernel
public import proofs.«01_k».proof.Proof.ProjRef
public import Idealize.ShloMosaic.Lib.Claim
public import Idealize.ShloMosaic.Adequacy
public import Idealize.ShloMosaic.Init

@[expose] public section

set_option maxRecDepth 16384
set_option maxHeartbeats 4000000

noncomputable section

namespace Cert.ProjClaim

open Idealize.ShloMosaic Idealize.SL.Sem Cert.ProjRef

/-- The reference runs, leaves its arguments alone and ends with no counter raised. -/
theorem frameR : Cert.quiescent_Reference4Ideal := by
  intro m g _
  run_from Cert.Reference4Ideal.Value.run m g
  · exact fun _ => ⟨trivial, trivial, trivial, trivial, trivial⟩
  · exact Idealize.ShloMosaic.sem_eq_zero_of_no_sems (by decide) r.2

/-- Result `q` at the launched arguments. -/
def out_q (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x512 .f32 := fun i =>
  Cert.ProjKernel.at_q (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)

/-- Result `k` at the launched arguments. -/
def out_k (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x512 .f32 := fun i =>
  Cert.ProjKernel.at_k (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)

/-- Result `v` at the launched arguments. -/
def out_v (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x1024 .bf16 := fun i =>
  Cert.ProjKernel.at_v (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)

/-- Result `a` at the launched arguments. -/
def out_a (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x512 .f32 := fun i =>
  Cert.ProjKernel.at_a (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (i 0) (i 1)

/-- Result `g` at the launched arguments. -/
def out_g (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x1024 .f32 := fun i =>
  Cert.ProjKernel.at_g (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)

/-- Result `sq` at the launched arguments. -/
def out_sq (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x1024 .bf16 := fun i =>
  Cert.ProjKernel.at_sq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)

/-- Result `sk` at the launched arguments. -/
def out_sk (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x256 .bf16 := fun i =>
  Cert.ProjKernel.at_sk (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)

/-- Result `sv` at the launched arguments. -/
def out_sv (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x256 .bf16 := fun i =>
  Cert.ProjKernel.at_sv (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)

/-- Result `ga` at the launched arguments. -/
def out_ga (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x1024 .f32 := fun i =>
  Cert.ProjKernel.at_ga (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)

/-- Result `gb` at the launched arguments. -/
def out_gb (m : (ℓ : Loc Cert.Kernel4Ideal.nD Cert.Kernel4Ideal.τ Cert.Kernel4Ideal.sig) → Buf (Elt Ideal) ℓ) (c : Dev Cert.Kernel4Ideal.nD) :
    FVec Ideal Cert.Kernel4Ideal.S16384x1024 .f32 := fun i =>
  Cert.ProjKernel.at_gb (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1)

/-- From equal arguments both programs end with the same results. -/
theorem algebraic : Cert.algebraic_Kernel4Ideal_Reference4Ideal := by
  intro m g m' g' _ hagree
  refine ⟨out_q m, out_k m, out_v m, out_a m, out_g m, out_sq m, out_sk m, out_sv m, out_ga m, out_gb m, ?_, ?_⟩
  · exact (θ_run Cert.Kernel4Ideal.defs _ _).mono (fun _ h c => ⟨((h.1 c).1 14).trans (Cert.ProjKernel.final_q m c),
      ((h.1 c).1 15).trans (Cert.ProjKernel.final_k m c),
      ((h.1 c).1 16).trans (Cert.ProjKernel.final_v m c),
      ((h.1 c).1 17).trans (Cert.ProjKernel.final_a m c),
      ((h.1 c).1 18).trans (Cert.ProjKernel.final_g m c),
      ((h.1 c).1 19).trans (Cert.ProjKernel.final_sq m c),
      ((h.1 c).1 20).trans (Cert.ProjKernel.final_sk m c),
      ((h.1 c).1 21).trans (Cert.ProjKernel.final_sv m c),
      ((h.1 c).1 22).trans (Cert.ProjKernel.final_ga m c),
      ((h.1 c).1 23).trans (Cert.ProjKernel.final_gb m c),
      h.2 c⟩) (θ_run_and (Cert.Kernel4Ideal.Gen.run_main m g) (Cert.Kernel4Ideal.Gen.unchanged m g))
  · run_from Cert.Reference4Ideal.Value.run m' g'
    · refine (Cert.Reference4Ideal.Read.val_main_v27_eq _ _ _).trans ?_
      funext j
      refine (congrArg _ (eq_ix2 j)).trans ?_
      exact ref_q _ _ _ (j 0) (j 1)
    · refine (Cert.Reference4Ideal.Read.val_main_v17_eq _ _ _).trans ?_
      funext j
      refine (congrArg _ (eq_ix2 j)).trans ?_
      exact ref_k _ _ _ (j 0) (j 1)
    · refine (Cert.Reference4Ideal.Read.val_main_v35_eq _ _ _).trans ?_
      funext j
      refine (congrArg _ (eq_ix2 j)).trans ?_
      exact ref_v _ _ _ (j 0) (j 1)
    · refine (Cert.Reference4Ideal.Read.val_main_v34_eq m' c).trans ?_
      obtain ⟨h0, h1, h2, h3, h4⟩ := hagree c
      try rw [h0, h1, h2, h3, h4]
      funext j
      refine (congrArg _ (eq_ix2 j)).trans ?_
      exact ref_a _ _ _ _ _ (j 0) (j 1)
    · refine (Cert.Reference4Ideal.Read.val_main_v39_eq _ _ _).trans ?_
      funext j
      refine (congrArg _ (eq_ix2 j)).trans ?_
      exact ref_g _ _ _ (j 0) (j 1)
    · refine (Cert.Reference4Ideal.Read.val_main_v36_eq _ _ _).trans ?_
      funext j
      refine (congrArg _ (eq_ix2 j)).trans ?_
      exact ref_sq _ _ _ (j 0) (j 1)
    · refine (Cert.Reference4Ideal.Read.val_main_v37_eq _ _ _).trans ?_
      funext j
      refine (congrArg _ (eq_ix2 j)).trans ?_
      exact ref_sk _ _ _ (j 0) (j 1)
    · refine (Cert.Reference4Ideal.Read.val_main_v38_eq _ _ _).trans ?_
      funext j
      refine (congrArg _ (eq_ix2 j)).trans ?_
      exact ref_sv _ _ _ (j 0) (j 1)
    · refine (Cert.Reference4Ideal.Read.val_main_v45_eq _ _ _).trans ?_
      funext j
      refine (congrArg _ (eq_ix2 j)).trans ?_
      exact ref_ga _ _ _ (j 0) (j 1)
    · refine (Cert.Reference4Ideal.Read.val_main_v51_eq _ _ _).trans ?_
      funext j
      refine (congrArg _ (eq_ix2 j)).trans ?_
      exact ref_gb _ _ _ (j 0) (j 1)

end Cert.ProjClaim

end
-- ==== Proof.MixoutKernel.lean ====
/-
  The output projection: what one grid point stores, entry by entry, and the array the call leaves.
-/
module

public import proofs.«01_k».proof.Proof.Rows
public import proofs.«01_k».proof.Proof.Gen.Kernel5Ideal.Value
public import Idealize.ShloMosaic.Lib.Claim
public import Idealize.ShloMosaic.Lib.Pipeline.ValueKit

@[expose] public section

set_option maxRecDepth 16384
set_option maxHeartbeats 2000000

noncomputable section

namespace Cert.MixoutKernel

open Idealize.ShloMosaic Idealize.ShloMosaic.TcCoe Idealize.SL.Sem
open Cert.Kernel5Ideal Cert.Kernel5Ideal.Gen Cert.Rows

/-- The row before the normalisation. -/
theorem pay2_at (o : FVec Ideal S512x1024 .bf16) (wa : FVec Ideal S1024x1024 .bf16) (a : FVec Ideal S512x1024 .bf16) (wb : FVec Ideal S1024x1024 .bf16)
    (ga gb : FVec Ideal S512x1024 .f32) (wo : FVec Ideal S1024x1024 .bf16) (x : FVec Ideal S512x1024 .f32) (gt : FVec Ideal S1x1024 .f32) (r : Fin 512) (d : Fin 1024) :
    k0_pay2 (F := Ideal) o wa a wb ga gb wo x gt (ix2 r d)
      = residOne (fun k => x (ix2 r k)) (fun k => gt (ix2 0 k)) (lin (merged (fun k => o (ix2 r k)) (fun k => a (ix2 r k)) (fun k => ga (ix2 r k)) (fun k => gb (ix2 r k)) (fun k n => wa (ix2 k n)) (fun k n => wb (ix2 k n))) (fun n d => wo (ix2 n d))) d := by
  pointwise [k0_pay2, residOne, merged, lin]

/-- What is stored: that row normalised, from its sum. -/
theorem stored_at (o : FVec Ideal S512x1024 .bf16) (wa : FVec Ideal S1024x1024 .bf16) (a : FVec Ideal S512x1024 .bf16) (wb : FVec Ideal S1024x1024 .bf16)
    (ga gb : FVec Ideal S512x1024 .f32) (wo : FVec Ideal S1024x1024 .bf16) (x : FVec Ideal S512x1024 .f32) (gt g b : FVec Ideal S1x1024 .f32) (r : Fin 512) (d : Fin 1024) :
    k0_pay1 (F := Ideal) (k0_pay2 o wa a wb ga gb wo x gt) (k0_pay3 g) (k0_pay4 b) (k0_pay5 o wa a wb ga gb wo x gt) k0_pay6 (ix2 r d)
      = normRow (fun k => k0_pay2 (F := Ideal) o wa a wb ga gb wo x gt (ix2 r k)) (fun k => g (ix2 0 k)) (fun k => b (ix2 0 k)) d := by
  pointwise [k0_pay1, k0_pay3, k0_pay4, k0_pay5, k0_pay6, normRow, mean]

/-- One block's payload, from the whole staged blocks. -/
theorem block (x : FVec Ideal S512x1024 .f32) (ada : FVec Ideal S1x9216 .f32) (o a : FVec Ideal S512x1024 .bf16) (ga gb : FVec Ideal S512x1024 .f32)
    (wa wb wo : FVec Ideal S1024x1024 .bf16) (g b : FVec Ideal S1x1024 .f32) (r : Fin 512) (d : Fin 1024) :
    out0_11 (F := Ideal) x ada o a ga gb wa wb wo g b (ix2 r d)
      = mixout (fun k => x (ix2 r k)) (fun k => ada (ix2 0 ⟨5120 + k.val, by omega⟩)) (fun k => o (ix2 r k)) (fun k => a (ix2 r k)) (fun k => ga (ix2 r k)) (fun k => gb (ix2 r k))
          (fun k => g (ix2 0 k)) (fun k => b (ix2 0 k)) (fun k n => wa (ix2 k n)) (fun k n => wb (ix2 k n)) (fun n d => wo (ix2 n d)) d := by
  frame_out
  rw [stored_at]
  pointwise [pay2_at, mixout]

/-- The block indices of a grid point: the row block for the row arrays, the only block for the rest. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- The result array, from the arguments. -/
def OUT (x : FVec Ideal S16384x1024 .f32) (ada : FVec Ideal S1x9216 .f32) (o a : FVec Ideal S16384x1024 .bf16) (ga gb : FVec Ideal S16384x1024 .f32)
    (wa wb wo : FVec Ideal S1024x1024 .f32) (g b : FVec Ideal S1024 .f32) : FVec Ideal S16384x1024 .f32 := fun j =>
  mixout (fun k => x (ix2 (j 0) k)) (fun k => ada (ix2 0 ⟨5120 + k.val, by omega⟩)) (fun k => o (ix2 (j 0) k)) (fun k => a (ix2 (j 0) k)) (fun k => ga (ix2 (j 0) k)) (fun k => gb (ix2 (j 0) k))
    (fun k => g (ix1 k)) (fun k => b (ix1 k)) (fun k n => wa (ix2 k n)) (fun k n => wb (ix2 k n)) (fun n d => wo (ix2 n d)) (j 1)

variable (m : (ℓ : Loc nD τ sig) → Buf (Elt Ideal) ℓ)

/-- The array after the run. -/
theorem final (c : Dev nD) : (dats m 0 c).arrAt 11 cfg0.N
    = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  obtain ⟨r, d, rfl⟩ : ∃ (r : Fin 512) (d : Fin 1024), y = ix2 r d := ⟨y 0, y 1, eq_ix2 y⟩
  refine (block _ _ _ _ _ _ _ _ _ _ _  r d).trans ?_
  unfold OUT
  congr 1
  all_goals (try (funext k))
  all_goals (try (funext n))
  all_goals (try (blk_simp [iblk]; entry_read; pointwise; blk_ext [idx t]; done))
  refine Fin.ext ?_
  blk_simp [idx t]

end Cert.MixoutKernel

end
-- ==== Proof.MixoutRef.lean ====
/-
  The output projection's reference, stage by stage at one entry.
-/
module

public import proofs.«01_k».proof.Proof.Rows
public import proofs.«01_k».proof.Proof.Gen.Reference5Ideal.Read

@[expose] public section

set_option maxRecDepth 16384

noncomputable section

namespace Cert.MixoutRef

open Idealize.ShloMosaic Idealize.ShloMosaic.TcCoe Idealize.SL.Sem
open Cert.Reference5Ideal Cert.Reference5Ideal.Gen Cert.Reference5Ideal.Read Cert.Rows

variable (x : FVec Ideal S16384x1024 .f32) (ada : FVec Ideal S1x9216 .f32) (o a : FVec Ideal S16384x1024 .bf16)
  (ga gb : FVec Ideal S16384x1024 .f32) (wa wb wo : FVec Ideal S1024x1024 .f32) (g b : FVec Ideal S1024 .f32)

theorem merged_at (r : Fin 16384) (k : Fin 1024) :
    val_main_v15 (F := Ideal) o a ga gb wa wb (ix2 r k) = merged (fun k => o (ix2 r k)) (fun k => a (ix2 r k)) (fun k => ga (ix2 r k)) (fun k => gb (ix2 r k)) (fun k n => wa (ix2 k n)) (fun k n => wb (ix2 k n)) k := by
  pointwise [val_main_v15, val_main_v14, val_main_v13, val_main_v12, val_main_v11, val_main_v10, val_main_v9, merged, lin]

theorem z_at (r : Fin 16384) (d : Fin 1024) :
    val_main_v21 (F := Ideal) x ada o a ga gb wa wb wo (ix2 r d) = residOne (fun k => x (ix2 r k)) (fun k => ada (ix2 0 ⟨5120 + k.val, by omega⟩)) (lin (fun n => val_main_v15 (F := Ideal) o a ga gb wa wb (ix2 r n)) (fun n d => wo (ix2 n d))) d := by
  pointwise [val_main_v21, val_main_v20, val_main_v19, val_main_v18, val_main_v17, val_main_v16, val_main_v5, val_main_cst, residOne, lin]

theorem mean_at (r : Fin 16384) (d : Fin 1) :
    val_main_v25 (F := Ideal) x ada o a ga gb wa wb wo (ix2 r d) = mean (fun k => val_main_v21 (F := Ideal) x ada o a ga gb wa wb wo (ix2 r k)) := by
  pointwise [val_main_v25, val_main_v24, val_main_v23, val_main_v22, val_main_cst_0, val_main_cst_1, mean]

theorem out_at (r : Fin 16384) (d : Fin 1024) :
    val_main_v45 (F := Ideal) x ada o a ga gb wa wb wo g b (ix2 r d) = normRow (fun k => val_main_v21 (F := Ideal) x ada o a ga gb wa wb wo (ix2 r k)) (fun k => g (ix1 k)) (fun k => b (ix1 k)) d := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_cst_2, val_main_cst_3, val_main_cst_4, mean_at, normRow, mean]

/-- The reference's result at row `r`, column `d`. -/
theorem ref_at (r : Fin 16384) (d : Fin 1024) :
    val_main_v45 (F := Ideal) x ada o a ga gb wa wb wo g b (ix2 r d)
      = mixout (fun k => x (ix2 r k)) (fun k => ada (ix2 0 ⟨5120 + k.val, by omega⟩)) (fun k => o (ix2 r k)) (fun k => a (ix2 r k)) (fun k => ga (ix2 r k)) (fun k => gb (ix2 r k))
          (fun k => g (ix1 k)) (fun k => b (ix1 k)) (fun k n => wa (ix2 k n)) (fun k n => wb (ix2 k n)) (fun n d => wo (ix2 n d)) d := by
  rw [out_at, mixout]
  simp only [funext (z_at x ada o a ga gb wa wb wo r), funext (merged_at o a ga gb wa wb r)]

end Cert.MixoutRef

end
-- ==== Proof.MixoutClaim.lean ====
/-
  The claims about the gated output projection: its reference's frame, and the equality of the two results.
-/
module

public import proofs.«01_k».proof.Defs
public import proofs.«01_k».proof.Proof.Gen.Kernel5Ideal.Value
public import proofs.«01_k».proof.Proof.Gen.Reference5Ideal.Run
public import proofs.«01_k».proof.Proof.MixoutKernel
public import proofs.«01_k».proof.Proof.MixoutRef
public import Idealize.ShloMosaic.Lib.Claim
public import Idealize.ShloMosaic.Adequacy
public import Idealize.ShloMosaic.Init

@[expose] public section

set_option maxRecDepth 16384

noncomputable section

namespace Cert.MixoutClaim

open Idealize.ShloMosaic Idealize.SL.Sem

/-- The reference runs, leaves its arguments alone and ends with no counter raised. -/
theorem frameR : Cert.quiescent_Reference5Ideal := by
  intro m g _
  run_from Cert.Reference5Ideal.Value.run m g
  · exact fun _ => ⟨trivial, trivial, trivial, trivial, trivial, trivial, trivial, trivial, trivial, trivial, trivial⟩
  · exact Idealize.ShloMosaic.sem_eq_zero_of_no_sems (by decide) r.2

/-- From equal arguments both programs end with the same result. -/
theorem algebraic : Cert.algebraic_Kernel5Ideal_Reference5Ideal := by
  pair_intro
  · run_from Cert.Kernel5Ideal.Gen.run_main m g
  · run_from Cert.Reference5Ideal.Value.run m' g'
    obtain ⟨h0, h1, h2, h3, h4, h5, h6, h7, h8, h9, h10⟩ := hagree c
    refine (Cert.Reference5Ideal.Read.val_main_v45_eq m' c).trans (Eq.trans ?_ (Cert.MixoutKernel.final m c).symm)
    rw [h0, h1, h2, h3, h4, h5, h6, h7, h8, h9, h10]
    funext j
    refine (congrArg _ (eq_ix2 j)).trans ?_
    exact Cert.MixoutRef.ref_at _ _ _ _ _ _ _ _ _ _ _ (j 0) (j 1)

end Cert.MixoutClaim

end
-- ==== Proof.AdaKernel.lean ====
/-
  The modulation vector's call: what one grid point stores, entry by entry, and the array the call leaves.
-/
module

public import proofs.«01_k».proof.Proof.Rows
public import proofs.«01_k».proof.Proof.Gen.Kernel6Ideal.Value
public import Idealize.ShloMosaic.Lib.Claim
public import Idealize.ShloMosaic.Lib.Pipeline.ValueKit

@[expose] public section

set_option maxRecDepth 16384

noncomputable section

namespace Cert.AdaKernel

open Idealize.ShloMosaic Idealize.ShloMosaic.TcCoe Idealize.SL.Sem
open Cert.Kernel6Ideal Cert.Kernel6Ideal.Gen Cert.Rows

/-- One block's payload, from the whole staged blocks. -/
theorem block (v : FVec Ideal S1x1024 .f32) (w : FVec Ideal S1024x1536 .f32) (b : FVec Ideal S1x1536 .f32) (r : Fin 1) (d : Fin 1536) :
    out0_3 (F := Ideal) v w b (ix2 r d) = modulation (fun k => v (ix2 0 k)) (fun k n => w (ix2 k n)) (fun n => b (ix2 0 n)) d := by
  obtain rfl : r = 0 := Subsingleton.elim _ _
  frame_out
  pointwise [k0_pay1, modulation, lin, logis, zero_sub]

/-- The block indices of a grid point: the column block for the matrix, the bias and the result. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The result array, from the arguments. -/
def OUT (v : FVec Ideal S1x1024 .f32) (w : FVec Ideal S1024x9216 .f32) (b : FVec Ideal S9216 .f32) : FVec Ideal S1x9216 .f32 := fun j =>
  modulation (fun k => v (ix2 0 k)) (fun k n => w (ix2 k n)) (fun n => b (ix1 n)) (j 1)

variable (m : (ℓ : Loc nD τ sig) → Buf (Elt Ideal) ℓ)

/-- The array after the run. -/
theorem final (c : Dev nD) : (dats m 0 c).arrAt 3 cfg0.N
    = OUT (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨r, d, rfl⟩ : ∃ (r : Fin 1) (d : Fin 1536), y = ix2 r d := ⟨y 0, y 1, eq_ix2 y⟩
  refine (block _ _ _ r d).trans ?_
  unfold OUT modulation lin
  refine congrArg₂ (· + ·) (Finset.sum_congr rfl fun k _ => congrArg₂ (· * ·) (congrArg₂ (· * ·) ?_ (congrArg logis ?_)) ?_) ?_
  all_goals (blk_simp [iblk]; entry_read; pointwise; blk_ext [idx t])

end Cert.AdaKernel

end
-- ==== Proof.AdaRef.lean ====
/-
  The modulation vector's reference at one entry.
-/
module

public import proofs.«01_k».proof.Proof.Rows
public import proofs.«01_k».proof.Proof.Gen.Reference6Ideal.Read

@[expose] public section

set_option maxRecDepth 16384

noncomputable section

namespace Cert.AdaRef

open Idealize.ShloMosaic Idealize.ShloMosaic.TcCoe Idealize.SL.Sem
open Cert.Reference6Ideal Cert.Reference6Ideal.Gen Cert.Reference6Ideal.Read Cert.Rows

/-- The reference's result at column `j`. -/
theorem ref_at (c : FVec Ideal S1x1024 .f32) (w : FVec Ideal S1024x9216 .f32) (b : FVec Ideal S9216 .f32) (r : Fin 1) (j : Fin 9216) :
    val_main_v3 (F := Ideal) c w b (ix2 r j) = modulation (fun k => c (ix2 r k)) (fun k j => w (ix2 k j)) (fun j => b (ix1 j)) j := by
  pointwise [val_main_v3, val_main_v2, val_main_v1, val_main_v0, val_main_call0_v0, val_main_call0_v1, val_main_call0_v2, val_main_call0_v3, val_main_call0_v4, val_main_call0_v5, val_main_call0_cst, val_main_call0_cst_0, modulation, lin, logis]

end Cert.AdaRef

end
-- ==== Proof.AdaClaim.lean ====
/-
  The claims about the modulation vector: its reference's frame, and the equality of the two results.
-/
module

public import proofs.«01_k».proof.Defs
public import proofs.«01_k».proof.Proof.Gen.Kernel6Ideal.Value
public import proofs.«01_k».proof.Proof.Gen.Reference6Ideal.Run
public import proofs.«01_k».proof.Proof.AdaKernel
public import proofs.«01_k».proof.Proof.AdaRef
public import Idealize.ShloMosaic.Lib.Claim
public import Idealize.ShloMosaic.Adequacy
public import Idealize.ShloMosaic.Init

@[expose] public section

set_option maxRecDepth 16384

noncomputable section

namespace Cert.AdaClaim

open Idealize.ShloMosaic Idealize.SL.Sem

/-- The reference runs, leaves its arguments alone and ends with no counter raised. -/
theorem frameR : Cert.quiescent_Reference6Ideal := by
  intro m g _
  run_from Cert.Reference6Ideal.Value.run m g
  · exact fun _ => ⟨trivial, trivial, trivial⟩
  · exact Idealize.ShloMosaic.sem_eq_zero_of_no_sems (by decide) r.2

/-- The only row is row 0. -/
theorem row_at (c : FVec Ideal Cert.Reference6Ideal.S1x1024 .f32) (w : FVec Ideal Cert.Reference6Ideal.S1024x9216 .f32) (b : FVec Ideal Cert.Reference6Ideal.S9216 .f32)
    (r : Fin 1) (n : Fin 9216) : Cert.Reference6Ideal.Read.val_main_v3 (F := Ideal) c w b (ix2 r n)
      = Cert.Rows.modulation (fun k => c (ix2 0 k)) (fun k n => w (ix2 k n)) (fun n => b (ix1 n)) n := by
  obtain rfl : r = 0 := Subsingleton.elim _ _
  exact Cert.AdaRef.ref_at c w b 0 n

/-- From equal arguments both programs end with the same result. -/
theorem algebraic : Cert.algebraic_Kernel6Ideal_Reference6Ideal := by
  pair_intro
  · run_from Cert.Kernel6Ideal.Gen.run_main m g
  · run_from Cert.Reference6Ideal.Value.run m' g'
    refine (Cert.Reference6Ideal.Read.val_main_v3_eq _ _ _).trans (Eq.trans ?_ (Cert.AdaKernel.final m c).symm)
    funext j
    refine (congrArg _ (eq_ix2 j)).trans ?_
    exact row_at _ _ _ (j 0) (j 1)

end Cert.AdaClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_scores_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.SwaClaim
public import proofs.«01_k».proof.Proof.Ffn1Claim
public import proofs.«01_k».proof.Proof.Ffn2Claim
public import proofs.«01_k».proof.Proof.ProjClaim
public import proofs.«01_k».proof.Proof.MixoutClaim
public import proofs.«01_k».proof.Proof.AdaClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_scores_finite.Gen.facts,
  fun m g _ => Cert.Kernel.Gen.frame m g,
  fun m g _ => Cert.KernelIdeal.Gen.frame m g,
  fun m g _ => Cert.KernelIdeal.Gen.frame m g,
  Cert.SwaClaim.frameR,
  Cert.SwaClaim.frameR_pre,
  fun m g _ => Cert.Kernel2.Gen.frame m g,
  fun m g _ => Cert.Kernel2Ideal.Gen.frame m g,
  Cert.Ffn1Claim.frameR,
  fun m g _ => Cert.Kernel3.Gen.frame m g,
  fun m g _ => Cert.Kernel3Ideal.Gen.frame m g,
  Cert.Ffn2Claim.frameR,
  fun m g _ => Cert.Kernel4.Gen.frame m g,
  fun m g _ => Cert.Kernel4Ideal.Gen.frame m g,
  Cert.ProjClaim.frameR,
  fun m g _ => Cert.Kernel5.Gen.frame m g,
  fun m g _ => Cert.Kernel5Ideal.Gen.frame m g,
  Cert.MixoutClaim.frameR,
  fun m g _ => Cert.Kernel6.Gen.frame m g,
  fun m g _ => Cert.Kernel6Ideal.Gen.frame m g,
  Cert.AdaClaim.frameR,
  Cert.SwaClaim.mask,
  Cert.SwaClaim.algebraic,
  trivial,
  Cert.Ffn1Claim.algebraic,
  trivial,
  Cert.Ffn2Claim.algebraic,
  trivial,
  Cert.ProjClaim.algebraic,
  trivial,
  Cert.MixoutClaim.algebraic,
  trivial,
  Cert.AdaClaim.algebraic⟩

end Cert.Proof

end
